-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2048x1024 : Shape := ⟨2, ![2048, 1024]⟩
abbrev S16 : Shape := ⟨1, ![16]⟩
abbrev S_ : Shape := ⟨0, ![]⟩
abbrev S1 : Shape := ⟨1, ![1]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S2048x1024, .f32⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 2 96 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_7 : BitVec 32 := 2#32
  let v12 : BitVec 32 := Scalar.muli v8 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_12 : BitVec 32 := 1#32
  let v18 : BitVec 32 := Scalar.muli v7 c1_i32_12
  let v19 : BitVec 32 := Scalar.addi v17 v18
  v19.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_14 : BitVec 32 := 2#32
  let v20 : BitVec 32 := Scalar.muli v9 c2_i32_14
  let v21 : BitVec 32 := Scalar.addi c0_i32_15 v20
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let c1_i32_16 : BitVec 32 := 1#32
  let v22 : BitVec 32 := Scalar.muli v10 c1_i32_16
  let v23 : BitVec 32 := Scalar.addi v21 v22
  v23.toNat
def k0_off1 (d0 : Dev nD) (c0_i32_17 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let v24 : BitVec 32 := Scalar.addi v6 c0_i32_17
  let c0_i32_21 : BitVec 32 := 0#32
  ![v24.toNat, 0]
def k0_dev4 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v113 : BitVec 32 := Scalar.muli v2 c2_i32_79
  let v114 : BitVec 32 := Scalar.addi c0_i32_80 v113
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_81 : BitVec 32 := 1#32
  let v115 : BitVec 32 := Scalar.muli v7 c1_i32_81
  let v116 : BitVec 32 := Scalar.addi v114 v115
  v116.toNat
def k0_dev5 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v132 : BitVec 32 := Scalar.muli v2 c2_i32_95
  let v133 : BitVec 32 := Scalar.addi c0_i32_96 v132
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_97 : BitVec 32 := 1#32
  let v134 : BitVec 32 := Scalar.muli v7 c1_i32_97
  let v135 : BitVec 32 := Scalar.addi v133 v134
  v135.toNat
def k0_dev6 (d0 : Dev nD) : Nat :=
  let c0_i32_112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_111 : BitVec 32 := 2#32
  let v151 : BitVec 32 := Scalar.muli v2 c2_i32_111
  let v152 : BitVec 32 := Scalar.addi c0_i32_112 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_113 : BitVec 32 := 1#32
  let v153 : BitVec 32 := Scalar.muli v7 c1_i32_113
  let v154 : BitVec 32 := Scalar.addi v152 v153
  v154.toNat
def k0_dev7 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v170 : BitVec 32 := Scalar.muli v2 c2_i32_127
  let v171 : BitVec 32 := Scalar.addi c0_i32_128 v170
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_129 : BitVec 32 := 1#32
  let v172 : BitVec 32 := Scalar.muli v7 c1_i32_129
  let v173 : BitVec 32 := Scalar.addi v171 v172
  v173.toNat
def k0_dev8 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_143 : BitVec 32 := 2#32
  let v189 : BitVec 32 := Scalar.muli v2 c2_i32_143
  let v190 : BitVec 32 := Scalar.addi c0_i32_144 v189
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_145 : BitVec 32 := 1#32
  let v191 : BitVec 32 := Scalar.muli v7 c1_i32_145
  let v192 : BitVec 32 := Scalar.addi v190 v191
  v192.toNat
def k0_dev9 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v208 : BitVec 32 := Scalar.muli v2 c2_i32_159
  let v209 : BitVec 32 := Scalar.addi c0_i32_160 v208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_161 : BitVec 32 := 1#32
  let v210 : BitVec 32 := Scalar.muli v7 c1_i32_161
  let v211 : BitVec 32 := Scalar.addi v209 v210
  v211.toNat
def k0_dev10 (d0 : Dev nD) : Nat :=
  let c0_i32_176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_175 : BitVec 32 := 2#32
  let v227 : BitVec 32 := Scalar.muli v2 c2_i32_175
  let v228 : BitVec 32 := Scalar.addi c0_i32_176 v227
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_177 : BitVec 32 := 1#32
  let v229 : BitVec 32 := Scalar.muli v7 c1_i32_177
  let v230 : BitVec 32 := Scalar.addi v228 v229
  v230.toNat
def k0_dev11 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v246 : BitVec 32 := Scalar.muli v2 c2_i32_191
  let v247 : BitVec 32 := Scalar.addi c0_i32_192 v246
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_193 : BitVec 32 := 1#32
  let v248 : BitVec 32 := Scalar.muli v7 c1_i32_193
  let v249 : BitVec 32 := Scalar.addi v247 v248
  v249.toNat
def k0_dev12 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v265 : BitVec 32 := Scalar.muli v2 c2_i32_207
  let v266 : BitVec 32 := Scalar.addi c0_i32_208 v265
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_209 : BitVec 32 := 1#32
  let v267 : BitVec 32 := Scalar.muli v7 c1_i32_209
  let v268 : BitVec 32 := Scalar.addi v266 v267
  v268.toNat
def k0_dev13 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v284 : BitVec 32 := Scalar.muli v2 c2_i32_223
  let v285 : BitVec 32 := Scalar.addi c0_i32_224 v284
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_225 : BitVec 32 := 1#32
  let v286 : BitVec 32 := Scalar.muli v7 c1_i32_225
  let v287 : BitVec 32 := Scalar.addi v285 v286
  v287.toNat
def k0_dev14 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v303 : BitVec 32 := Scalar.muli v2 c2_i32_239
  let v304 : BitVec 32 := Scalar.addi c0_i32_240 v303
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_241 : BitVec 32 := 1#32
  let v305 : BitVec 32 := Scalar.muli v7 c1_i32_241
  let v306 : BitVec 32 := Scalar.addi v304 v305
  v306.toNat
def k0_dev15 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v322 : BitVec 32 := Scalar.muli v2 c2_i32_255
  let v323 : BitVec 32 := Scalar.addi c0_i32_256 v322
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_257 : BitVec 32 := 1#32
  let v324 : BitVec 32 := Scalar.muli v7 c1_i32_257
  let v325 : BitVec 32 := Scalar.addi v323 v324
  v325.toNat
def k0_dev16 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v341 : BitVec 32 := Scalar.muli v2 c2_i32_271
  let v342 : BitVec 32 := Scalar.addi c0_i32_272 v341
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_273 : BitVec 32 := 1#32
  let v343 : BitVec 32 := Scalar.muli v7 c1_i32_273
  let v344 : BitVec 32 := Scalar.addi v342 v343
  v344.toNat
def k0_dev17 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_287 : BitVec 32 := 2#32
  let v360 : BitVec 32 := Scalar.muli v2 c2_i32_287
  let v361 : BitVec 32 := Scalar.addi c0_i32_288 v360
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_289 : BitVec 32 := 1#32
  let v362 : BitVec 32 := Scalar.muli v7 c1_i32_289
  let v363 : BitVec 32 := Scalar.addi v361 v362
  v363.toNat
def k0_dev18 (d0 : Dev nD) : Nat :=
  let c0_i32_304 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_303 : BitVec 32 := 2#32
  let v379 : BitVec 32 := Scalar.muli v2 c2_i32_303
  let v380 : BitVec 32 := Scalar.addi c0_i32_304 v379
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_305 : BitVec 32 := 1#32
  let v381 : BitVec 32 := Scalar.muli v7 c1_i32_305
  let v382 : BitVec 32 := Scalar.addi v380 v381
  v382.toNat
def k0_dev19 (d0 : Dev nD) : Nat :=
  let c0_i32_320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_319 : BitVec 32 := 2#32
  let v398 : BitVec 32 := Scalar.muli v2 c2_i32_319
  let v399 : BitVec 32 := Scalar.addi c0_i32_320 v398
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_321 : BitVec 32 := 1#32
  let v400 : BitVec 32 := Scalar.muli v7 c1_i32_321
  let v401 : BitVec 32 := Scalar.addi v399 v400
  v401.toNat
def k0_dev20 (d0 : Dev nD) : Nat :=
  let c0_i32_350 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_349 : BitVec 32 := 2#32
  let v430 : BitVec 32 := Scalar.muli v8 c2_i32_349
  let v431 : BitVec 32 := Scalar.addi c0_i32_350 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_351 : BitVec 32 := 1#32
  let v432 : BitVec 32 := Scalar.muli v5 c1_i32_351
  let v433 : BitVec 32 := Scalar.addi v431 v432
  v433.toNat
def k0_dev21 (d0 : Dev nD) : Nat :=
  let c0_i32_379 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_378 : BitVec 32 := 2#32
  let v462 : BitVec 32 := Scalar.muli v8 c2_i32_378
  let v463 : BitVec 32 := Scalar.addi c0_i32_379 v462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_380 : BitVec 32 := 1#32
  let v464 : BitVec 32 := Scalar.muli v5 c1_i32_380
  let v465 : BitVec 32 := Scalar.addi v463 v464
  v465.toNat
def k0_dev22 (d0 : Dev nD) : Nat :=
  let c0_i32_408 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_407 : BitVec 32 := 2#32
  let v494 : BitVec 32 := Scalar.muli v8 c2_i32_407
  let v495 : BitVec 32 := Scalar.addi c0_i32_408 v494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v496 : BitVec 32 := Scalar.muli v5 c1_i32_409
  let v497 : BitVec 32 := Scalar.addi v495 v496
  v497.toNat
def k0_dev23 (d0 : Dev nD) : Nat :=
  let c0_i32_437 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_436 : BitVec 32 := 2#32
  let v526 : BitVec 32 := Scalar.muli v8 c2_i32_436
  let v527 : BitVec 32 := Scalar.addi c0_i32_437 v526
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_438 : BitVec 32 := 1#32
  let v528 : BitVec 32 := Scalar.muli v5 c1_i32_438
  let v529 : BitVec 32 := Scalar.addi v527 v528
  v529.toNat
def k0_dev24 (d0 : Dev nD) : Nat :=
  let c0_i32_466 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_465 : BitVec 32 := 2#32
  let v558 : BitVec 32 := Scalar.muli v8 c2_i32_465
  let v559 : BitVec 32 := Scalar.addi c0_i32_466 v558
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_467 : BitVec 32 := 1#32
  let v560 : BitVec 32 := Scalar.muli v5 c1_i32_467
  let v561 : BitVec 32 := Scalar.addi v559 v560
  v561.toNat
def k0_dev25 (d0 : Dev nD) : Nat :=
  let c0_i32_495 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_494 : BitVec 32 := 2#32
  let v590 : BitVec 32 := Scalar.muli v8 c2_i32_494
  let v591 : BitVec 32 := Scalar.addi c0_i32_495 v590
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_496 : BitVec 32 := 1#32
  let v592 : BitVec 32 := Scalar.muli v5 c1_i32_496
  let v593 : BitVec 32 := Scalar.addi v591 v592
  v593.toNat
def k0_dev26 (d0 : Dev nD) : Nat :=
  let c0_i32_524 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_523 : BitVec 32 := 2#32
  let v622 : BitVec 32 := Scalar.muli v8 c2_i32_523
  let v623 : BitVec 32 := Scalar.addi c0_i32_524 v622
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_525 : BitVec 32 := 1#32
  let v624 : BitVec 32 := Scalar.muli v5 c1_i32_525
  let v625 : BitVec 32 := Scalar.addi v623 v624
  v625.toNat
def k0_dev27 (d0 : Dev nD) : Nat :=
  let c0_i32_553 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_552 : BitVec 32 := 2#32
  let v654 : BitVec 32 := Scalar.muli v8 c2_i32_552
  let v655 : BitVec 32 := Scalar.addi c0_i32_553 v654
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_554 : BitVec 32 := 1#32
  let v656 : BitVec 32 := Scalar.muli v5 c1_i32_554
  let v657 : BitVec 32 := Scalar.addi v655 v656
  v657.toNat
def k0_dev28 (d0 : Dev nD) : Nat :=
  let c0_i32_582 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_581 : BitVec 32 := 2#32
  let v686 : BitVec 32 := Scalar.muli v8 c2_i32_581
  let v687 : BitVec 32 := Scalar.addi c0_i32_582 v686
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_583 : BitVec 32 := 1#32
  let v688 : BitVec 32 := Scalar.muli v5 c1_i32_583
  let v689 : BitVec 32 := Scalar.addi v687 v688
  v689.toNat
def k0_dev29 (d0 : Dev nD) : Nat :=
  let c0_i32_611 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_610 : BitVec 32 := 2#32
  let v718 : BitVec 32 := Scalar.muli v8 c2_i32_610
  let v719 : BitVec 32 := Scalar.addi c0_i32_611 v718
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_612 : BitVec 32 := 1#32
  let v720 : BitVec 32 := Scalar.muli v5 c1_i32_612
  let v721 : BitVec 32 := Scalar.addi v719 v720
  v721.toNat
def k0_dev30 (d0 : Dev nD) : Nat :=
  let c0_i32_640 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_639 : BitVec 32 := 2#32
  let v750 : BitVec 32 := Scalar.muli v8 c2_i32_639
  let v751 : BitVec 32 := Scalar.addi c0_i32_640 v750
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_641 : BitVec 32 := 1#32
  let v752 : BitVec 32 := Scalar.muli v5 c1_i32_641
  let v753 : BitVec 32 := Scalar.addi v751 v752
  v753.toNat
def k0_dev31 (d0 : Dev nD) : Nat :=
  let c0_i32_669 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_668 : BitVec 32 := 2#32
  let v782 : BitVec 32 := Scalar.muli v8 c2_i32_668
  let v783 : BitVec 32 := Scalar.addi c0_i32_669 v782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_670 : BitVec 32 := 1#32
  let v784 : BitVec 32 := Scalar.muli v5 c1_i32_670
  let v785 : BitVec 32 := Scalar.addi v783 v784
  v785.toNat
def k0_dev32 (d0 : Dev nD) : Nat :=
  let c0_i32_698 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_697 : BitVec 32 := 2#32
  let v814 : BitVec 32 := Scalar.muli v8 c2_i32_697
  let v815 : BitVec 32 := Scalar.addi c0_i32_698 v814
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_699 : BitVec 32 := 1#32
  let v816 : BitVec 32 := Scalar.muli v5 c1_i32_699
  let v817 : BitVec 32 := Scalar.addi v815 v816
  v817.toNat
def k0_dev33 (d0 : Dev nD) : Nat :=
  let c0_i32_727 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_726 : BitVec 32 := 2#32
  let v846 : BitVec 32 := Scalar.muli v8 c2_i32_726
  let v847 : BitVec 32 := Scalar.addi c0_i32_727 v846
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_728 : BitVec 32 := 1#32
  let v848 : BitVec 32 := Scalar.muli v5 c1_i32_728
  let v849 : BitVec 32 := Scalar.addi v847 v848
  v849.toNat
def k0_dev34 (d0 : Dev nD) : Nat :=
  let c0_i32_756 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_755 : BitVec 32 := 2#32
  let v878 : BitVec 32 := Scalar.muli v8 c2_i32_755
  let v879 : BitVec 32 := Scalar.addi c0_i32_756 v878
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_757 : BitVec 32 := 1#32
  let v880 : BitVec 32 := Scalar.muli v5 c1_i32_757
  let v881 : BitVec 32 := Scalar.addi v879 v880
  v881.toNat
def k0_dev35 (d0 : Dev nD) : Nat :=
  let c0_i32_785 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_784 : BitVec 32 := 2#32
  let v910 : BitVec 32 := Scalar.muli v8 c2_i32_784
  let v911 : BitVec 32 := Scalar.addi c0_i32_785 v910
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_786 : BitVec 32 := 1#32
  let v912 : BitVec 32 := Scalar.muli v5 c1_i32_786
  let v913 : BitVec 32 := Scalar.addi v911 v912
  v913.toNat
def k0_dev36 (d0 : Dev nD) : Nat :=
  let c0_i32_1192_r0 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_1191_r0 : BitVec 32 := 2#32
  let v1241_r0 : BitVec 32 := Scalar.muli v8 c2_i32_1191_r0
  let v1242_r0 : BitVec 32 := Scalar.addi c0_i32_1192_r0 v1241_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1193_r0 : BitVec 32 := 1#32
  let v1243_r0 : BitVec 32 := Scalar.muli v5 c1_i32_1193_r0
  let v1244_r0 : BitVec 32 := Scalar.addi v1242_r0 v1243_r0
  v1244_r0.toNat
def k0_dev37 (d0 : Dev nD) : Nat :=
  let c0_i32_1196_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1195_r0 : BitVec 32 := 2#32
  let v1245_r0 : BitVec 32 := Scalar.muli v2 c2_i32_1195_r0
  let v1246_r0 : BitVec 32 := Scalar.addi c0_i32_1196_r0 v1245_r0
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_1197_r0 : BitVec 32 := 1#32
  let v1247_r0 : BitVec 32 := Scalar.muli v7 c1_i32_1197_r0
  let v1248_r0 : BitVec 32 := Scalar.addi v1246_r0 v1247_r0
  v1248_r0.toNat
def k0_dev38 (d0 : Dev nD) : Nat :=
  let c0_i32_1200_r0 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_1199_r0 : BitVec 32 := 2#32
  let v1249_r0 : BitVec 32 := Scalar.muli v9 c2_i32_1199_r0
  let v1250_r0 : BitVec 32 := Scalar.addi c0_i32_1200_r0 v1249_r0
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let c1_i32_1201_r0 : BitVec 32 := 1#32
  let v1251_r0 : BitVec 32 := Scalar.muli v10 c1_i32_1201_r0
  let v1252_r0 : BitVec 32 := Scalar.addi v1250_r0 v1251_r0
  v1252_r0.toNat
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loop.lean ====
/-
# The kernel's body as loops over the sixteen chunks

The printed body is unrolled. Here its repeated stretches are named once, at a chunk number `i`, and the whole body is
shown equal to a short program that runs them over the list of the chunks.
-/
module

public import proofs.«01_k».proof.Proof.Gen.KernelIdeal
public import proofs.«01_k».proof.Proof.Gen.KernelIdeal.Skeleton
public import Idealize.ShloMosaic.Lib.Pipeline.Regions

@[expose] public section

noncomputable section

open Cert.KernelIdeal Cert.KernelIdeal.Gen
open Idealize.ShloMosaic Idealize.ShloMosaic.TcCoe
open Idealize.SL Idealize.SL.Sem

variable {F : FTy → Type} [FloatOps F]

/-! ## The buffers, the chunks of rows in them, and the semaphores -/

abbrev argM : Memref sig .tc .hbm S4096x1024 .f32 := Memref.whole main_arg0
abbrev outM : Memref sig .tc .hbm S4096x1024 .bf16 := Memref.whole main_v1
abbrev xhM : Memref sig .tc .vmem S2048x1024 .f32 := Memref.whole cc0_scratch0
abbrev sendM : Memref sig .tc .vmem S2048x1024 .bf16 := Memref.whole cc0_scratch1
abbrev recvM : Memref sig .tc .vmem S2048x1024 .bf16 := Memref.whole cc0_scratch2
abbrev sumM : Memref sig .tc .vmem S2048x1024 .bf16 := Memref.whole cc0_scratch3

theorem rows_inb (i : Fin 16) : ∀ a, (![128 * i.val, 0] : Fin 2 → Nat) a + S128x1024.size a ≤ S2048x1024.size a := by
  revert i; decide

theorem rows_packed (i : Fin 16) :
    (Rect.unit (s := S2048x1024) ![128 * i.val, 0] S128x1024.size (rows_inb i)).PackedRows (EltTy.packing .bf16) := by
  revert i; decide

theorem rows_words (i : Fin 16) :
    (Rect.unit (s := S2048x1024) ![128 * i.val, 0] S128x1024.size (rows_inb i)).WholeWords (EltTy.packing .bf16) := by
  revert i; decide

theorem sem_inb (i : Fin 16) : ∀ a, (![i.val] : Fin 1 → Nat) a + S1.size a ≤ S16.size a := by
  revert i; decide

/-- Rows `128 i … 128 i + 127` of a device's half, as a rectangle of a scratch buffer. -/
abbrev rowsR (i : Fin 16) : Rect S2048x1024 := Rect.unit (s := S2048x1024) ![128 * i.val, 0] S128x1024.size (rows_inb i)

/-- The same rows at the place of device `d`'s half in the argument and in the result. -/
abbrev blockR (d : Dev nD) (i : Fin 16) : Rect S4096x1024 :=
  Rect.unit (s := S4096x1024) (k0_off1 d (BitVec.ofNat 32 (128 * i.val))) S128x1024.size (k0_off1_inb d i)

abbrev argS (d : Dev nD) (i : Fin 16) : Memref sig .tc .hbm (blockR d i).shape .f32 := argM.slice (blockR d i) (fun _ => rfl)
abbrev outS (d : Dev nD) (i : Fin 16) : Memref sig .tc .hbm (blockR d i).shape .bf16 := outM.slice (blockR d i) (fun _ => rfl)
abbrev xhS (i : Fin 16) : Memref sig .tc .vmem (rowsR i).shape .f32 := xhM.slice (rowsR i) (fun _ => rfl)
abbrev sendS (i : Fin 16) : Memref sig .tc .vmem (rowsR i).shape .bf16 := sendM.slice (rowsR i) (fun _ => rfl)
abbrev recvS (i : Fin 16) : Memref sig .tc .vmem (rowsR i).shape .bf16 := recvM.slice (rowsR i) (fun _ => rfl)
abbrev sumS (i : Fin 16) : Memref sig .tc .vmem (rowsR i).shape .bf16 := sumM.slice (rowsR i) (fun _ => rfl)

/-- Cell `i` of an array of sixteen DMA semaphores. -/
abbrev semAt (A : DmaSems sig S16) (i : Fin 16) : DmaSem sig :=
  ((A.slice (Rect.unit (s := S16) ![i.val] S1.size (sem_inb i))).squeeze S_ squeezes_S1_S_).sem

abbrev copyC (i : Fin 16) : DmaSem sig := semAt cc0_scratch4 i
abbrev storeC (i : Fin 16) : DmaSem sig := semAt cc0_scratch5 i
abbrev s1sC (i : Fin 16) : DmaSem sig := semAt cc0_scratch6 i
abbrev s1rC (i : Fin 16) : DmaSem sig := semAt cc0_scratch7 i
abbrev s2sC (i : Fin 16) : DmaSem sig := semAt cc0_scratch8 i
abbrev s2rC (i : Fin 16) : DmaSem sig := semAt cc0_scratch9 i

/-- The two regular semaphores: the barrier that opens the kernel and the one that closes it. -/
abbrev barC : Sem sig := (SemArray.scalar (sig.barrier 0 rfl) : Sems sig S_).sem
abbrev endC : Sem sig := (cc0_scoped0 : Sems sig S_).sem

/-- The neighbours along the first mesh axis, along the second, and along both. -/
abbrev xp (d : Dev nD) : Dev nD := ⟨k0_dev1 d, k0_dev1_lt d⟩
abbrev yp (d : Dev nD) : Dev nD := ⟨k0_dev2 d, k0_dev2_lt d⟩
abbrev dp (d : Dev nD) : Dev nD := ⟨k0_dev3 d, k0_dev3_lt d⟩

/-! ## The stretches of the body at one chunk -/

/-- What a device stores of a chunk before it sends it: the chunk in the narrow format. -/
abbrev narrow (v : Vec F S128x1024 .f32) : Vec F S128x1024 .bf16 := k0_pay1 v
/-- What a device stores of its chunk `v` and the chunk `w` it received: their sum, in the narrow format. -/
abbrev added (v : Vec F S128x1024 .f32) (w : Vec F S128x1024 .bf16) : Vec F S128x1024 .bf16 := k0_pay18 v w

/-- Start the copy of a chunk of the argument into the scratch buffer. -/
def startCopy (d : Dev nD) (i : Fin 16) : Prog (TpuEff nD τ sig (Elt F) Λ₀ .tc) PUnit :=
  Prog.lift (.enqueueDma (argS d i) (.here (xhS i)) (.dma (copyC i)) (View.wordExact_bits rfl) (View.wordExact_bits rfl) ⟨Or.inl rfl, trivial⟩)

/-- The first exchange at one chunk: await the copy, narrow it, send it to the neighbour along the second axis. -/
def sendChunk (d : Dev nD) (i : Fin 16) : Prog (TpuEff nD τ sig (Elt F) Λ₀ .tc) PUnit := do
  Prog.lift (.waitDma2 (copyC i) (argS d i) (xhS i) (View.wordExact_bits rfl) (View.wordExact_bits rfl))
  let v : Vec F S128x1024 .f32 ← Prog.lift (.load xhM (rowsR i).toLoadRect (View.loadsAt_vmem h_S128x1024))
  let _u : Vec F S128x1024 .bf16 ← Prog.lift (.load sendM (rowsR i).toLoadRect (View.loadsAt_vmem h_S128x1024))
  Prog.lift (.store sendM (rowsR i) (narrow v) Finset.univ (View.stores_vmem h_S128x1024 ((Memref.isWhole_whole _).storeExact_slice rfl _ (rows_packed i)) (fun _ => rfl)) (.inl rfl))
  Prog.lift (.enqueueDma (sendS i) (.remote (Dev.tc (yp d)) (recvS i) (.dma (s1sC i))) (.dma (s1rC i)) ((Memref.isWhole_whole _).wordExact_slice rfl _ (rows_words i)) ((Memref.isWhole_whole _).wordExact_slice rfl _ (rows_words i)) ⟨⟨rfl, Or.inl rfl⟩, trivial⟩)

/-- The second exchange at one chunk: await the neighbour's chunk, add, store the sum in the result here and in the
    result of the neighbour along the first axis. -/
def addChunk (d : Dev nD) (i : Fin 16) : Prog (TpuEff nD τ sig (Elt F) Λ₀ .tc) PUnit := do
  Prog.lift (.waitDma2 (s1rC i) (sendS i) (recvS i) ((Memref.isWhole_whole _).wordExact_slice rfl _ (rows_words i)) ((Memref.isWhole_whole _).wordExact_slice rfl _ (rows_words i)))
  let v : Vec F S128x1024 .f32 ← Prog.lift (.load xhM (rowsR i).toLoadRect (View.loadsAt_vmem h_S128x1024))
  let w : Vec F S128x1024 .bf16 ← Prog.lift (.load recvM (rowsR i).toLoadRect (View.loadsAt_vmem h_S128x1024))
  let _u : Vec F S128x1024 .bf16 ← Prog.lift (.load sumM (rowsR i).toLoadRect (View.loadsAt_vmem h_S128x1024))
  Prog.lift (.store sumM (rowsR i) (added v w) Finset.univ (View.stores_vmem h_S128x1024 ((Memref.isWhole_whole _).storeExact_slice rfl _ (rows_packed i)) (fun _ => rfl)) (.inl rfl))
  Prog.lift (.enqueueDma (sumS i) (.here (outS d i)) (.dma (storeC i)) ((Memref.isWhole_whole _).wordExact_slice rfl _ (rows_words i)) ((Memref.isWhole_whole _).wordExact_slice rfl _ (k0_off1_wordsbf16 d i)) ⟨Or.inl rfl, trivial⟩)
  Prog.lift (.enqueueDma (sumS i) (.remote (Dev.tc (xp d)) (outS d i) (.dma (s2sC i))) (.dma (s2rC i)) ((Memref.isWhole_whole _).wordExact_slice rfl _ (rows_words i)) ((Memref.isWhole_whole _).wordExact_slice rfl _ (k0_off1_wordsbf16 d i)) ⟨⟨rfl, Or.inl rfl⟩, trivial⟩)

/-- Await the neighbour's sum of a chunk. -/
def waitS2r (d : Dev nD) (i : Fin 16) : Prog (TpuEff nD τ sig (Elt F) Λ₀ .tc) PUnit :=
  Prog.lift (.waitDma2 (s2rC i) (sumS i) (outS d i) ((Memref.isWhole_whole _).wordExact_slice rfl _ (rows_words i)) ((Memref.isWhole_whole _).wordExact_slice rfl _ (k0_off1_wordsbf16 d i)))

/-- Await the copy of a chunk's sum into the result. -/
def waitStore (d : Dev nD) (i : Fin 16) : Prog (TpuEff nD τ sig (Elt F) Λ₀ .tc) PUnit :=
  Prog.lift (.waitDma2 (storeC i) (sumS i) (outS d i) ((Memref.isWhole_whole _).wordExact_slice rfl _ (rows_words i)) ((Memref.isWhole_whole _).wordExact_slice rfl _ (k0_off1_wordsbf16 d i)))

/-- Await that the first exchange has read a chunk. -/
def waitS1s (i : Fin 16) : Prog (TpuEff nD τ sig (Elt F) Λ₀ .tc) PUnit :=
  Prog.lift (.waitDma2 (s1sC i) (recvS i) (sendS i) ((Memref.isWhole_whole _).wordExact_slice rfl _ (rows_words i)) ((Memref.isWhole_whole _).wordExact_slice rfl _ (rows_words i)))

/-- Await that the second exchange has read a chunk. -/
def waitS2s (d : Dev nD) (i : Fin 16) : Prog (TpuEff nD τ sig (Elt F) Λ₀ .tc) PUnit :=
  Prog.lift (.waitDma2 (s2sC i) (outS d i) (sumS i) ((Memref.isWhole_whole _).wordExact_slice rfl _ (k0_off1_wordsbf16 d i)) ((Memref.isWhole_whole _).wordExact_slice rfl _ (rows_words i)))

/-- Signal all three other devices on a semaphore and await all three. -/
def meet (d : Dev nD) (s : Sem sig) : Prog (TpuEff nD τ sig (Elt F) Λ₀ .tc) PUnit := do
  semSignalWord (xp d) s 1#32
  semSignalWord (yp d) s 1#32
  semSignalWord (dp d) s 1#32
  semWaitWord s 3#32

/-! ## The body -/

/-- Run a stretch at each chunk of a list, in order. -/
def each {E : Type → Type} (f : Fin 16 → Prog E PUnit) : List (Fin 16) → Prog E PUnit
  | [] => pure ⟨⟩
  | i :: L => f i >>= fun _ => each f L

/-- The sixteen chunks in order. -/
abbrev chunks : List (Fin 16) := [0, 1, 2, 3, 4, 5, 6, 7, 8, 9, 10, 11, 12, 13, 14, 15]

/-- The body, as a device that has read its number runs it. -/
def bodyOn (d : Dev nD) : Prog (TpuEff nD τ sig (Elt F) Λ₀ .tc) PUnit := do
  meet d barC
  each (startCopy d) chunks
  each (sendChunk d) chunks
  each (addChunk d) chunks
  each (waitS2r d) chunks
  each (waitStore d) chunks
  each waitS1s chunks
  each (waitS2s d) chunks
  meet d endC

set_option maxRecDepth 65536 in
/-- The printed body reads the device's number and runs the loops. -/
theorem body_eq_loops :
    cc0_body (F := F) argM (Memref.isWhole_whole _) outM (Memref.isWhole_whole _) xhM (Memref.isWhole_whole _) sendM (Memref.isWhole_whole _)
      recvM (Memref.isWhole_whole _) sumM (Memref.isWhole_whole _) cc0_scratch4 cc0_scratch5 cc0_scratch6 cc0_scratch7 cc0_scratch8 cc0_scratch9 cc0_scoped0
    = (Prog.lift .deviceId >>= fun d => bodyOn d) := by
  chain_rfl

end
-- ==== Proof.Protocol.lean ====
/-
# The protocol between the four devices

Every semaphore of the kernel is used once per launch, so one round describes each. A device `c` has neighbours `xp c`
and `yp c` along the two mesh axes and `dp c` along both.

* The opening barrier: each of the three others signals one unit, `c` waits for three. `xp c`'s unit hands over the rows
  of `xp c`'s result that `c` will write; `yp c`'s unit hands over `yp c`'s receive buffer; `dp c`'s hands nothing.
* The copy semaphores: `c`'s own copy of chunk `i` of the argument lands there, and hands `c` the filled scratch rows and
  the rows of the argument back.
* The first exchange: `yp c`'s chunk `i`, narrowed, lands in `c`'s receive buffer on `c`'s receive semaphore; the sender
  gets its source rows back on its send semaphore.
* The second exchange: `xp c`'s sum of chunk `i` lands in `c`'s result at the rows of `xp c`'s half; the sender gets
  half a share of its sum rows back.
* The store semaphores: `c`'s own copy of its sum into its own result, with the other half share of the sum rows.
* The closing barrier hands over nothing.
-/
module

public import proofs.«01_k».proof.Proof.Loop
public import proofs.«01_k».proof.Proof.Gen.KernelIdeal.Launch
public import Idealize.ShloMosaic.Lib.Rounds
public import Idealize.ShloMosaic.Lib.Memref
public import Idealize.ShloMosaic.Lib.MemrefSat
public import Idealize.ShloMosaic.Lib.Tactic

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- The cells of a device: its two barriers, and six arrays of sixteen. -/
abbrev Cell : Type := Fin 2 ⊕ Fin 6 × Fin 16

/-- The six arrays, in the order copy, store, first exchange sent and received, second exchange sent and received. -/
abbrev semArr : Fin 6 → DmaSems sig S16
  | 0 => cc0_scratch4 | 1 => cc0_scratch5 | 2 => cc0_scratch6 | 3 => cc0_scratch7 | 4 => cc0_scratch8 | 5 => cc0_scratch9

abbrev csem : Cell → SemLoc sig
  | .inl 0 => .reg barC
  | .inl 1 => .reg endC
  | .inr (j, i) => .dma (semAt (semArr j) i)

abbrev cellAt (c : Dev nD) (k : Cell) : GSem nD τ sig := ((c : Thread nD τ), csem k)

/-- Which cell a semaphore is. -/
def cellOfSem : SemLoc sig → Cell
  | .reg s => .inl (Fin.ofNat 2 s.val)
  | .dma s => .inr (Fin.ofNat 6 (s.val / 16), Fin.ofNat 16 s.val)

set_option maxRecDepth 8000 in
theorem cellOfSem_csem (k : Cell) : cellOfSem (csem k) = k := by revert k; decide +kernel

theorem csem_injective : Function.Injective csem := fun a b h => by
  rw [← cellOfSem_csem a, ← cellOfSem_csem b, h]

theorem cellAt_inj {c c' : Dev nD} {k k' : Cell} (h : cellAt c k = cellAt c' k') : c = c' ∧ k = k' :=
  ⟨congrArg (fun g : GSem nD τ sig => g.1.1) h, csem_injective (congrArg Prod.snd h)⟩

/-! ## The neighbours -/

theorem xp_xp (c : Dev nD) : xp (xp c) = c := by revert c; decide +kernel
theorem yp_yp (c : Dev nD) : yp (yp c) = c := by revert c; decide +kernel
theorem dp_dp (c : Dev nD) : dp (dp c) = c := by revert c; decide +kernel

/-- The three others, numbered. -/
abbrev peer : Fin 3 → Dev nD → Dev nD
  | 0 => xp | 1 => yp | 2 => dp

theorem peer_peer (k : Fin 3) (c : Dev nD) : peer k (peer k c) = c := by
  fin_cases k
  · exact xp_xp c
  · exact yp_yp c
  · exact dp_dp c

/-! ## The amounts -/

/-- What a copy of a chunk counts, in the wide format and in the narrow one. -/
abbrev nWide : ℕ := sig.dmaCredit .tc (Kind.table .tc .vmem) xhM.view.buf S128x1024 .f32
abbrev nNarrow : ℕ := sig.dmaCredit .tc (Kind.table .tc .vmem) sendM.view.buf S128x1024 .bf16

theorem credit_xh (i : Fin 16) : (xhS i).view.dmaCredit = nWide := View.dmaCredit_closed _ S128x1024 rfl _ rfl _ rfl
theorem credit_send (i : Fin 16) : (sendS i).view.dmaCredit = nNarrow := View.dmaCredit_closed _ S128x1024 rfl _ rfl _ rfl
theorem credit_recv (i : Fin 16) : (recvS i).view.dmaCredit = nNarrow := View.dmaCredit_closed _ S128x1024 rfl _ rfl _ rfl
theorem credit_sum (i : Fin 16) : (sumS i).view.dmaCredit = nNarrow := View.dmaCredit_closed _ S128x1024 rfl _ rfl _ rfl
theorem credit_out (d : Dev nD) (i : Fin 16) : (outS d i).view.dmaCredit = nNarrow := View.dmaCredit_closed _ S128x1024 rfl _ rfl _ rfl

/-- The units one duty adds to a cell. -/
abbrev units : Cell → ℕ
  | .inl _ => 1
  | .inr (j, _) => if j = 0 then nWide else nNarrow

theorem units_pos (k : Cell) : 0 < units k := by
  rcases k with b | ⟨j, i⟩
  · exact Nat.one_pos
  · show 0 < if j = 0 then nWide else nNarrow
    split
    · rw [← credit_xh 0]; exact View.dmaCredit_pos _ (by decide)
    · rw [← credit_send 0]; exact View.dmaCredit_pos _ (by decide)

/-! ## The contents -/

variable (m : (ℓ : Loc nD τ sig) → Buf (Elt F) ℓ)

/-- Chunk `i` of device `c`'s half of its argument. -/
def chunkX (c : Dev nD) (i : Fin 16) : Vec F S128x1024 .f32 :=
  (argS c i).view.read (Elt F) (m ((c : Thread nD τ).loc main_arg0))
/-- What `c` sends of it. -/
def chunkSent (c : Dev nD) (i : Fin 16) : Vec F S128x1024 .bf16 := narrow (chunkX m c i)
/-- Its sum with what the neighbour along the second axis sent. -/
def chunkSum (c : Dev nD) (i : Fin 16) : Vec F S128x1024 .bf16 := added (chunkX m c i) (chunkSent m (yp c) i)

/-! ## What each duty hands over -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- A chunk of memory of device `c`, owned at known contents. -/
abbrev at_ {sp : Space} {sh : Shape} {e : EltTy} (c : Dev nD) (M : Memref sig .tc sp sh e) (q : PosShare TreeShare) (X : sh.Idx → Elt F e) : sProp 𝕄 :=
  owns (Ix := Unit) (Name := ℕ) (U := UU) (Lvl := ℕ) (Val := Elt F) (c : Thread nD τ) M q X
/-- A chunk of memory of device `c`, owned whole at some contents. -/
abbrev any_ {sp : Space} {sh : Shape} {e : EltTy} (c : Dev nD) (M : Memref sig .tc sp sh e) : sProp 𝕄 :=
  iprop(∃ X : sh.Idx → Elt F e, at_ c M fullShare X)

/-- What the opening barrier's unit of peer `k` hands `c`. -/
def barPay (c : Dev nD) : Fin 3 → sProp 𝕄
  | 0 => bigSep Finset.univ fun i : Fin 16 => any_ (xp c) (outS c i)
  | 1 => bigSep Finset.univ fun i : Fin 16 => any_ (yp c) (recvS i)
  | 2 => iprop(emp)

/-- What the landing on a DMA cell hands `c`. -/
def dmaPay (c : Dev nD) (i : Fin 16) : Fin 6 → sProp 𝕄
  | 0 => iprop(at_ c (xhS i) fullShare (chunkX m c i) ∗ at_ c (argS c i) fullShare (chunkX m c i))
  | 1 => iprop(at_ c (outS c i) fullShare (chunkSum m c i) ∗ at_ c (sumS i) fullShare.left (chunkSum m c i))
  | 2 => at_ c (sendS i) fullShare (chunkSent m c i)
  | 3 => at_ c (recvS i) fullShare (chunkSent m (yp c) i)
  | 4 => at_ c (sumS i) fullShare.right (chunkSum m c i)
  | 5 => at_ c (outS (xp c) i) fullShare (chunkSum m (xp c) i)

def pay (c : Dev nD) : Cell → Fin 3 → sProp 𝕄
  | .inl 0, d => barPay c d
  | .inl 1, _ => iprop(emp)
  | .inr (j, i), _ => dmaPay m c i j

instance pay_storable (c : Dev nD) (k : Cell) (d : Fin 3) : BI.Storable (upEmb : UEmb _ 𝕄) (pay m c k d) := by
  rcases k with b | ⟨j, i⟩
  · fin_cases b
    · fin_cases d
      · show BI.Storable upEmb (bigSep Finset.univ fun i : Fin 16 => (any_ (xp c) (outS c i) : sProp 𝕄)); infer_instance
      · show BI.Storable upEmb (bigSep Finset.univ fun i : Fin 16 => (any_ (yp c) (recvS i) : sProp 𝕄)); infer_instance
      · show BI.Storable upEmb (iprop(emp) : sProp 𝕄); infer_instance
    · show BI.Storable upEmb (iprop(emp) : sProp 𝕄); infer_instance
  · show BI.Storable upEmb (dmaPay m c i j)
    fin_cases j <;> (dsimp only [dmaPay]; infer_instance)

/-! ## The schedule -/

abbrev dutiesOf : Cell → Finset (Fin 3)
  | .inl _ => Finset.univ
  | .inr _ => {0}

/-- One round: a barrier cell has a duty per peer, a DMA cell one duty. -/
def meshRd : Rounds.Schedule (GSem nD τ sig) (Fin 3) 𝕄 where
  duties g r := if r = 0 ∧ g.1.2 = .tc then dutiesOf (cellOfSem g.2) else ∅
  amount g _ _ := units (cellOfSem g.2)
  payload g _ d := pay m g.1.1 (cellOfSem g.2) d
  amount_pos g _ _ _ := units_pos _

instance meshRd_payload_storable (g : GSem nD τ sig) (r : ℕ) (d : Fin 3) :
    BI.Storable (upEmb : UEmb _ 𝕄) ((meshRd m).payload g r d) := pay_storable m g.1.1 _ d

theorem duties_at (c : Dev nD) (k : Cell) : (meshRd m).duties (cellAt c k) 0 = dutiesOf k := by
  dsimp only [meshRd]; rw [if_pos ⟨rfl, rfl⟩, cellOfSem_csem]
theorem duties_later (g : GSem nD τ sig) (r : ℕ) (hr : 1 ≤ r) : (meshRd m).duties g r = ∅ := by
  dsimp only [meshRd]; rw [if_neg fun h => by omega]
theorem amount_at (c : Dev nD) (k : Cell) (d : Fin 3) : (meshRd m).amount (cellAt c k) 0 d = units k := by
  dsimp only [meshRd]; rw [cellOfSem_csem]
theorem payload_at (c : Dev nD) (k : Cell) (d : Fin 3) : (meshRd m).payload (cellAt c k) 0 d = pay m c k d := by
  dsimp only [meshRd]; rw [cellOfSem_csem]

theorem expect_bar (c : Dev nD) (b : Fin 2) : (meshRd m).expect (cellAt c (.inl b)) 0 = 3 := by
  unfold Schedule.expect Schedule.amountOf
  rw [duties_at, Finset.sum_congr rfl fun d _ => amount_at m c (.inl b) d]
  rfl
theorem expect_dma (c : Dev nD) (j : Fin 6) (i : Fin 16) : (meshRd m).expect (cellAt c (.inr (j, i))) 0 = units (.inr (j, i)) := by
  unfold Schedule.expect Schedule.amountOf
  rw [duties_at, Finset.sum_singleton, amount_at]

theorem rest_bar (c : Dev nD) (b : Fin 2) :
    bigSep ((meshRd m).duties (cellAt c (.inl b)) 0 \ ∅) (fun d => (meshRd m).payload (cellAt c (.inl b)) 0 d)
      = iprop(pay m c (.inl b) 0 ∗ pay m c (.inl b) 1 ∗ pay m c (.inl b) 2) := by
  rw [Finset.sdiff_empty, duties_at, bigSep_congr fun d _ => payload_at m c (.inl b) d,
    show dutiesOf (.inl b) = (Finset.univ : Finset (Fin 3)) from rfl,
    bigSep_univ_eq_bigSepL [0, 1, 2] (by decide) (by decide)]
  rfl
theorem rest_dma (c : Dev nD) (j : Fin 6) (i : Fin 16) :
    bigSep ((meshRd m).duties (cellAt c (.inr (j, i))) 0 \ ∅) (fun d => (meshRd m).payload (cellAt c (.inr (j, i))) 0 d) = dmaPay m c i j := by
  rw [Finset.sdiff_empty, duties_at, show dutiesOf (.inr (j, i)) = ({0} : Finset (Fin 3)) from rfl, bigSep_singleton, payload_at]
  rfl

/-! ## What is owed, and the levels -/

/-- Owing `n` units to each listed chunk's cell, besides `O`. -/
def owedEach (O : CellTallies nD τ sig Unit) (g : Fin 16 → GSem nD τ sig) (n : ℕ) : List (Fin 16) → CellTallies nD τ sig Unit
  | [] => O
  | i :: L => owedEach O g n L + tallyAt (g i) () n

/-- Owing one unit to the barrier `b` of each of the three others, besides `O`. -/
def owedMeet (c : Dev nD) (b : Fin 2) (O : CellTallies nD τ sig Unit) : CellTallies nD τ sig Unit :=
  ((O + tallyAt (cellAt (dp c) (.inl b)) () 1) + tallyAt (cellAt (yp c) (.inl b)) () 1) + tallyAt (cellAt (xp c) (.inl b)) () 1

/-- What `c` owes before the closing barrier; with the chunks `L` of the second exchange yet to send; with those of the
    first exchange yet to send; at the start. -/
def owedEnd (c : Dev nD) : CellTallies nD τ sig Unit := owedMeet c 1 0
def owedAdd (c : Dev nD) (L : List (Fin 16)) : CellTallies nD τ sig Unit :=
  owedEach (owedEnd c) (fun i => cellAt (xp c) (.inr (5, i))) nNarrow L
def owedSend (c : Dev nD) (L : List (Fin 16)) : CellTallies nD τ sig Unit :=
  owedEach (owedAdd c chunks) (fun i => cellAt (yp c) (.inr (3, i))) nNarrow L
def owedStart (c : Dev nD) : CellTallies nD τ sig Unit := owedMeet c 0 (owedSend c chunks)

/-- The order in which cells are awaited. -/
def level : Cell → ℕ
  | .inl 0 => 1
  | .inl 1 => 4
  | .inr (j, _) => if j = 3 then 2 else if j = 5 then 3 else 0

def L (g : GSem nD τ sig) : Finset Unit := if g.1.2 = .tc then {()} else ∅
def lv (g : GSem nD τ sig) (_ : Unit) : ℕ := level (cellOfSem g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies on a core's cell above level `n`. -/
def Above (n : ℕ) (O : CellTallies nD τ sig Unit) : Prop := ∀ g u, 0 < O g u → g.1.2 = .tc ∧ n < lv g ()

theorem above_zero (n : ℕ) : Above n 0 := fun _ _ h => absurd h (Nat.lt_irrefl 0)

theorem above_add {n : ℕ} {O : CellTallies nD τ sig Unit} (hO : Above n O) (c : Dev nD) (k : Cell) (a : ℕ) (hk : n < level k) :
    Above n (O + tallyAt (cellAt c k) () a) := fun g u h => by
  rw [Pi.add_apply, Finsupp.add_apply, tallyAt_apply] at h
  by_cases hg : g = cellAt c k ∧ u = ()
  · rw [hg.1]; exact ⟨rfl, by show n < level (cellOfSem (csem k)); rw [cellOfSem_csem]; exact hk⟩
  · rw [if_neg hg, Nat.add_zero] at h; exact hO g u h

theorem above_each {n : ℕ} {O : CellTallies nD τ sig Unit} (hO : Above n O) (c : Dev nD) (j : Fin 6) (a : ℕ) (hj : ∀ i, n < level (.inr (j, i))) :
    ∀ Ls : List (Fin 16), Above n (owedEach O (fun i => cellAt c (.inr (j, i))) a Ls)
  | [] => hO
  | i :: Ls => above_add (above_each hO c j a hj Ls) c _ a (hj i)

theorem above_meet {n : ℕ} {O : CellTallies nD τ sig Unit} (hO : Above n O) (c : Dev nD) (b : Fin 2) (hb : n < level (.inl b)) :
    Above n (owedMeet c b O) :=
  above_add (above_add (above_add hO _ _ _ hb) _ _ _ hb) _ _ _ hb

theorem above_end {n : ℕ} (hn : n ≤ 3) (c : Dev nD) : Above n (owedEnd c) := above_meet (above_zero n) c 1 (Nat.lt_succ_of_le hn)
theorem above_owedAdd {n : ℕ} (hn : n ≤ 2) (c : Dev nD) (Ls : List (Fin 16)) : Above n (owedAdd c Ls) :=
  above_each (above_end (by omega) c) _ _ _ (fun _ => Nat.lt_succ_of_le hn) Ls
theorem above_owedSend {n : ℕ} (hn : n ≤ 1) (c : Dev nD) (Ls : List (Fin 16)) : Above n (owedSend c Ls) :=
  above_each (above_owedAdd (by omega) c _) _ _ _ (fun _ => Nat.lt_succ_of_le hn) Ls
theorem above_start (c : Dev nD) : Above 0 (owedStart c) := above_meet (above_owedSend (Nat.zero_le _) c _) c 0 Nat.one_pos

/-- A core may wait on a cell while all it owes lies above it. -/
theorem mayWait_of_above (c : Dev nD) (k : Cell) (O : CellTallies nD τ sig Unit) (h : Above (level k) O) :
    (levAts L lv : sProp 𝕄) ⊢ MayWait (c : Thread nD τ) (csem k) () O :=
  MayOwe.of_cut (L := L) (lev := lv) (level k) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; show level (cellOfSem (csem k)) ≤ _; rw [cellOfSem_csem])
    (fun g u hg => (h g u hg).2)

/-! ## What every device knows -/

/-- Every cell's invariant, under the names `K`, and that every cell has reached its round. -/
def records (K : Dev nD × Cell → ℕ) : sProp 𝕄 :=
  iprop((bigSep Finset.univ fun ck : Dev nD × Cell => cellInv ER (meshRd m) (K ck) (cellAt ck.1 ck.2))
    ∗ (bigSep Finset.univ fun ck : Dev nD × Cell => reached ER (cellAt ck.1 ck.2) 0) ∗ levAts L lv)

instance records_persistent (K : Dev nD × Cell → ℕ) : BI.Persistent (records m K) := by unfold records; infer_instance

theorem records_inv (K : Dev nD × Cell → ℕ) (c : Dev nD) (k : Cell) : records m K ⊢ cellInv ER (meshRd m) (K (c, k)) (cellAt c k) := by
  unfold records; iintro ⟨H, -⟩
  exact bigSep_elim (Φ := fun ck : Dev nD × Cell => (cellInv ER (meshRd m) (K ck) (cellAt ck.1 ck.2) : sProp 𝕄)) (Finset.mem_univ (c, k))
theorem records_reached (K : Dev nD × Cell → ℕ) (c : Dev nD) (k : Cell) : records m K ⊢ (reached ER (cellAt c k) 0 : sProp 𝕄) := by
  unfold records; iintro ⟨-, H, -⟩
  exact bigSep_elim (Φ := fun ck : Dev nD × Cell => (reached ER (cellAt ck.1 ck.2) 0 : sProp 𝕄)) (Finset.mem_univ (c, k))
theorem records_lev (K : Dev nD × Cell → ℕ) : records m K ⊢ (levAts L lv : sProp 𝕄) := by
  unfold records; iintro ⟨-, -, H⟩; iexact H

end
-- ==== Proof.Steps.lean ====
/-
# What each stretch of the body does at one chunk

For every stretch of the body at chunk `i` on device `c`: what it takes and what it gives. The stretches only differ in
which buffers they touch and which cell they wait on, so the wait, the load and the store are stated once.
-/
module

public import proofs.«01_k».proof.Proof.Protocol

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`'s core. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on so far. -/
def ow (c : Dev nD) (O : CellTallies nD τ sig Unit) : sProp 𝕄 := iprop(∃ W, owes (c : Thread nD τ) O W)

variable (m : (ℓ : Loc nD τ sig) → Buf (Elt F) ℓ) (K : Dev nD × Cell → ℕ)

/-- A program that only returns. -/
theorem wp_done {α : Type} {Q : α → sProp 𝕄} (c : Dev nD) {a : α} : Q a ⊢ Wp c (.ret a) Q := by
  unfold Wp; rw [wp_ret]; iintro H; imodintro; iexact H

/-- One program after another. -/
theorem wp_then {α : Type} {P R : sProp 𝕄} {Q : α → sProp 𝕄} (c : Dev nD) {p : Prog (TpuEff nD τ sig (Elt F) Λ₀ .tc) PUnit}
    {k : PUnit → Prog (TpuEff nD τ sig (Elt F) Λ₀ .tc) α} (hp : P ⊢ Wp c p (fun _ => R)) :
    P ⊢ iprop((R -∗ Wp c (k ⟨⟩) Q) -∗ Wp c (p >>= k) Q) := by
  unfold Wp at *
  rw [wp_bind]
  iintro HP Hk
  iapply (wp_wand frame (wpE (defs₀ (F := F)) 𝒱₀ (c : Thread nD τ) none) Set.univ) $$ [HP]
  · iapply hp; iexact HP
  iintro %a HR
  iapply Hk; iexact HR

/-! ## Loads and stores of a chunk -/

section Access
variable {cs : CoreSpace} {sh : Shape} {e : EltTy} {α : Type} (c : Dev nD)

/-- A load of a chunk's rows through the whole buffer gives the chunk's contents. -/
theorem load_chunk {Q : α → sProp 𝕄} (M : Memref sig .tc cs sh e) (r : Rect sh) (hr : ∀ a, r.stride a = 1) (hl : M.view.LoadsAt r.toLoadRect) (q : PosShare TreeShare)
    (X : r.shape.Idx → Elt F e) (k : (r.shape.Idx → Elt F e) → Prog (TpuEff nD τ sig (Elt F) Λ₀ .tc) α) :
    at_ c (M.slice r hr) q X ⊢ iprop((at_ c (M.slice r hr) q X -∗ Wp c (k X) Q) -∗ Wp c (.op (.load M r.toLoadRect hl) k) Q) := by
  unfold at_ owns
  iintro ⟨%f, %hf, H⟩ Hk
  iapply (wp_load_rect 𝒱₀ (c : Thread nD τ) none Set.univ (m := M) (r := r) (hl := hl) (S := (M.slice r hr).view.set) (fun _ h => h)) $$ H
  iintro H
  have hf' : (M.access r).read (Elt F) f = X := hf
  rw [hf']
  iapply Hk
  iexists f
  isplitr; · ipureintro; exact hf
  iexact H

/-- A store of a chunk's rows through the whole buffer sets the chunk's contents. -/
theorem store_chunk {Q : α → sProp 𝕄} (M : Memref sig .tc cs sh e) (r : Rect sh) (hr : ∀ a, r.stride a = 1) (w : r.shape.Idx → Elt F e)
    (hx : (M.access r).Stores Finset.univ) (hm : (Finset.univ : Finset r.shape.Idx) = Finset.univ ∨ ∀ a, r.stride a = 1)
    (X : r.shape.Idx → Elt F e) (k : PUnit → Prog (TpuEff nD τ sig (Elt F) Λ₀ .tc) α) :
    at_ c (M.slice r hr) fullShare X
      ⊢ iprop((at_ c (M.slice r hr) fullShare w -∗ Wp c (k ⟨⟩) Q) -∗ Wp c (.op (.store M r w Finset.univ hx hm) k) Q) := by
  unfold at_ owns
  iintro ⟨%f, -, H⟩ Hk
  iapply (wp_store 𝒱₀ (c : Thread nD τ) none Set.univ (m := M) (r := r) (Mk := Finset.univ) (hx := hx) (hm := hm)
    (S := (M.slice r hr).view.set) (fun _ h => h)) $$ H
  iintro H
  iapply Hk
  iexists _
  isplitr
  · ipureintro; exact View.read_write_univ f w
  iexact H

end Access

/-! ## A wait on a DMA cell -/

section
variable {α : Type} (c : Dev nD)

/-- A wait on one of `c`'s DMA cells, for all that will ever land there, gives what the landing hands over, and the
    semaphore back at zero. -/
theorem wait_dma {Q : α → sProp 𝕄} (j : Fin 6) (i : Fin 16) {sp sp' : Space} {sh sh' : Shape} {e e' : EltTy} (src : Memref sig .tc sp' sh' e') (dst : Memref sig .tc sp sh e)
    (hsrc : src.view.WordExact) (hdst : dst.view.WordExact) (hN : dst.view.dmaCredit = units (.inr (j, i)))
    (O : CellTallies nD τ sig Unit) (hO : Above (level (.inr (j, i))) O) (k : PUnit → Prog (TpuEff nD τ sig (Elt F) Λ₀ .tc) α) :
    iprop(records m K ∗ cred (tallyAt (cellAt c (.inr (j, i))) () (units (.inr (j, i)))) ∗ atPos ER (cellAt c (.inr (j, i))) 0 ∅ 0 ∗ ow c O)
      ⊢ iprop((dmaPay m c i j ∗ semVal (cellAt c (.inr (j, i))) 0 ∗ ow c O -∗ Wp c (k ⟨⟩) Q)
          -∗ Wp c (.op (.waitDma2 (semAt (semArr j) i) src dst hsrc hdst) k) Q) := by
  unfold ow
  iintro ⟨#HR, Hc, Hat, ⟨%W, HO⟩⟩ Hk
  iapply (Rounds.wp_wait_rest_token 𝒱₀ ER (meshRd m) (c : Thread nD τ) none (κ := K (c, .inr (j, i)))
      (wpE_waitDma2_eq 𝒱₀ (c : Thread nD τ) none Set.univ) (Set.mem_univ _) () (O := O) (W := W) (R := 0) (m := 0) (T := ∅)
      (by rw [Nat.zero_add, hN]; exact (expect_dma m c j i).symm)) $$ [Hc Hat HO]
  · isplitr; · iapply (records_inv m K c (.inr (j, i))); iexact HR
    isplitl [Hc]; · rw [hN]; iexact Hc
    isplitl [HO]; · iexact HO
    isplitr; · iapply (mayWait_of_above c (.inr (j, i)) O hO); iapply (records_lev m K); iexact HR
    iexact Hat
  iintro ⟨HO, Hat, -, Hpay⟩
  imod (Rounds.cell_close ER (meshRd m) (Set.mem_univ (K (c, .inr (j, i)))) (fun h => h) (R := 0 + 1) (duties_later m (cellAt c (.inr (j, i))))) $$ [Hat] with Hz
  · isplitr; · iapply (records_inv m K c (.inr (j, i))); iexact HR
    iexact Hat
  ihave Hp := (Entails.of_eq (rest_dma m c j i)) $$ Hpay
  iapply Hk
  isplitl [Hp]; · iexact Hp
  isplitl [Hz]; · iexact Hz
  iexists _; iexact HO

end

/-! ## Tokens -/

/-- The right to pay duty `d` of a cell. -/
abbrev tok (c : Dev nD) (k : Cell) (d : Fin 3) : sProp 𝕄 := dutyTok ER (cellAt c k) 0 d
/-- The right to wait on a cell for one landing. -/
abbrev credit (c : Dev nD) (k : Cell) : sProp 𝕄 := cred (tallyAt (cellAt c k) () (units k))
abbrev pos (c : Dev nD) (k : Cell) : sProp 𝕄 := atPos ER (cellAt c k) 0 ∅ 0
abbrev zero (c : Dev nD) (k : Cell) : sProp 𝕄 := semVal (cellAt c k) 0

theorem dma_duty (c : Dev nD) (j : Fin 6) (i : Fin 16) : (0 : Fin 3) ∈ (meshRd m).duties (cellAt c (.inr (j, i))) 0 := by
  rw [duties_at]; exact Finset.mem_singleton_self _

/-! ## The copies -/

section
variable (c : Dev nD)

/-- A chunk of memory copied within device `c` on its cell `(j, i)`, what the cell hands over being the destination at
    the source's contents and the source itself. -/
theorem copy_chunk {α : Type} {Q : α → sProp 𝕄} (j : Fin 6) (i : Fin 16) {sp sp' : Space} {sh : Shape} {e : EltTy}
    (src : Memref sig .tc sp sh e) (dst : Memref sig .tc sp' sh e) (hsrc : src.view.WordExact) (hdst : dst.view.WordExact)
    (hsem : (DmaTarget.here dst : DmaTarget nD τ sig (.tc : Proc τ) sp' sh e).Typed sp (.dma (semAt (semArr j) i))) (q : PosShare TreeShare) (X : sh.Idx → Elt F e)
    (hN : dst.view.dmaCredit = units (.inr (j, i))) (h : dmaPay m c i j = iprop(at_ c dst fullShare X ∗ at_ c src q X))
    (k : PUnit → Prog (TpuEff nD τ sig (Elt F) Λ₀ .tc) α) :
    iprop(records m K ∗ at_ c src q X ∗ any_ c dst ∗ tok c (.inr (j, i)) 0)
      ⊢ iprop((credit c (.inr (j, i)) -∗ Wp c (k ⟨⟩) Q) -∗ Wp c (.op (.enqueueDma src (.here dst) (.dma (semAt (semArr j) i)) hsrc hdst hsem) k) Q) := by
  unfold any_ at_ owns
  iintro ⟨#HR, ⟨%fs, %hs, Hs⟩, ⟨%Y, %fd, -, Hd⟩, Ht⟩ Hk
  have hpay : iprop((dst.view.loc (c : Thread nD τ) ↦[dst.view.set]{fullShare} (dst.view.write (Elt F) fd (src.view.read (Elt F) fs) Finset.univ))
      ∗ (src.view.loc (c : Thread nD τ) ↦[src.view.set]{q} fs)) ⊢ ((meshRd m).payload (cellAt c (.inr (j, i))) 0 0 : sProp 𝕄) := by
    rw [payload_at]; show _ ⊢ dmaPay m c i j; rw [h]; unfold at_ owns
    iintro ⟨Hd, Hs⟩
    isplitl [Hd]
    · iexists _; isplitr
      · ipureintro; exact (View.read_write_univ fd _).trans hs
      · iexact Hd
    · iexists fs; isplitr; · ipureintro; exact hs
      iexact Hs
  iapply (Rounds.wp_copy_pointsTo 𝒱₀ ER (meshRd m) (c : Thread nD τ) none (κ := K (c, .inr (j, i))) (q := q) (fs := fs) (fd := fd)
      (r := 0) (d := 0) (dma_duty m c j i) () (units (.inr (j, i)))
      ((View.amount_dma _ _).trans hN) (amount_at m c (.inr (j, i)) 0) hpay) $$ [Hs Hd Ht]
  · isplitr; · iapply (records_inv m K c (.inr (j, i))); iexact HR
    isplitl [Hs]; · iexact Hs
    isplitl [Hd]; · iexact Hd
    isplitl [Ht]; · iexact Ht
    iapply (records_reached m K c (.inr (j, i))); iexact HR
  iintro Hc
  iapply Hk; iexact Hc

/-- What starting the copy of a chunk of the argument takes. -/
def copyIn (c : Dev nD) (i : Fin 16) : sProp 𝕄 :=
  iprop(at_ c (argS c i) fullShare (chunkX m c i) ∗ any_ c (xhS i) ∗ tok c (.inr (0, i)) 0)

/-- Starting the copy gives the right to await it. -/
theorem step_startCopy (i : Fin 16) (O : sProp 𝕄) :
    iprop(records m K ∗ copyIn m c i ∗ O) ⊢ Wp c (startCopy c i) (fun _ => iprop(credit c (.inr (0, i)) ∗ O)) := by
  unfold startCopy copyIn
  simp only [Prog.lift]
  iintro ⟨#HR, H, HO⟩
  iapply (copy_chunk m K c 0 i (argS c i) (xhS i) _ _ _ fullShare (chunkX m c i) (credit_xh i) rfl _) $$ [H]
  · isplitr; · iexact HR
    iexact H
  iintro Hc
  iapply (wp_done c)
  isplitl [Hc]; · iexact Hc
  iexact HO

/-- A chunk of memory here sent to a device, on this device's cell `(j, i)` and the other's cell `(j', i)`, what each cell
    hands over being the source here and the destination there at the source's contents. -/
theorem send_chunk {α : Type} {Q : α → sProp 𝕄} (c' : Dev nD) (j j' : Fin 6) (i : Fin 16) {sp sp' : Space} {sh : Shape} {e : EltTy}
    (src : Memref sig .tc sp sh e) (dst : Memref sig .tc sp' sh e) (hsc : dst.view.ref.isScScratch = false)
    (hsrc : src.view.WordExact) (hdst : dst.view.WordExact)
    (hsem : DmaTarget.Typed sp (.dma (semAt (semArr j') i)) (.remote (Dev.tc c' : Thread nD τ) dst (.dma (semAt (semArr j) i)) hsc))
    (q : PosShare TreeShare) (X : sh.Idx → Elt F e)
    (hN : dst.view.dmaCredit = nNarrow) (hj : j ≠ 0) (hj' : j' ≠ 0)
    (h₁ : dmaPay m c i j = at_ c src q X) (h₂ : dmaPay m c' i j' = at_ c' dst fullShare X) (O : CellTallies nD τ sig Unit)
    (k : PUnit → Prog (TpuEff nD τ sig (Elt F) Λ₀ .tc) α) :
    iprop(records m K ∗ at_ c src q X ∗ any_ c' dst ∗ tok c (.inr (j, i)) 0 ∗ tok c' (.inr (j', i)) 0
        ∗ ow c (O + tallyAt (cellAt c' (.inr (j', i))) () nNarrow))
      ⊢ iprop((credit c (.inr (j, i)) ∗ ow c O -∗ Wp c (k ⟨⟩) Q)
          -∗ Wp c (.op (.enqueueDma src (.remote (Dev.tc c' : Thread nD τ) dst (.dma (semAt (semArr j) i)) hsc) (.dma (semAt (semArr j') i)) hsrc hdst hsem) k) Q) := by
  have e₁ : units (.inr (j, i)) = nNarrow := if_neg hj
  have e₂ : units (.inr (j', i)) = nNarrow := if_neg hj'
  unfold ow any_ at_ owns
  iintro ⟨#HR, ⟨%fs, %hs, Hs⟩, ⟨%Y, %fd, -, Hd⟩, Ht, Ht', ⟨%W, HO⟩⟩ Hk
  have hpay₁ : (src.view.loc (c : Thread nD τ) ↦[src.view.set]{q} fs) ⊢ ((meshRd m).payload (cellAt c (.inr (j, i))) 0 0 : sProp 𝕄) := by
    rw [payload_at]; show _ ⊢ dmaPay m c i j; rw [h₁]; unfold at_ owns
    iintro Hs
    iexists fs; isplitr; · ipureintro; exact hs
    iexact Hs
  have hpay₂ : (dst.view.loc (c' : Thread nD τ) ↦[dst.view.set]{fullShare} (dst.view.write (Elt F) fd (src.view.read (Elt F) fs) Finset.univ))
      ⊢ ((meshRd m).payload (cellAt c' (.inr (j', i))) 0 0 : sProp 𝕄) := by
    rw [payload_at]; show _ ⊢ dmaPay m c' i j'; rw [h₂]; unfold at_ owns
    iintro Hd
    iexists _; isplitr
    · ipureintro; exact (View.read_write_univ fd _).trans hs
    · iexact Hd
  iapply (Rounds.wp_send_pointsTo 𝒱₀ ER (meshRd m) (c : Thread nD τ) none (c' := (c' : Thread nD τ)) (κ₁ := K (c, .inr (j, i))) (κ₂ := K (c', .inr (j', i)))
      (q := q) (fs := fs) (fd := fd) (r₁ := 0) (r₂ := 0) (d₁ := 0) (d₂ := 0) (dma_duty m c j i) (dma_duty m c' j' i) () () nNarrow
      ((View.amount_dma _ _).trans hN) ((amount_at m c (.inr (j, i)) 0).trans e₁) ((amount_at m c' (.inr (j', i)) 0).trans e₂) O rfl (W := W) hpay₁ hpay₂)
    $$ [Hs Hd Ht Ht' HO]
  · isplitr; · iapply (records_inv m K c (.inr (j, i))); iexact HR
    isplitr; · iapply (records_inv m K c' (.inr (j', i))); iexact HR
    isplitl [Hs]; · iexact Hs
    isplitl [Hd]; · iexact Hd
    isplitl [HO]; · iexact HO
    isplitl [Ht]; · iexact Ht
    isplitr; · iapply (records_reached m K c (.inr (j, i))); iexact HR
    isplitl [Ht']; · iexact Ht'
    iapply (records_reached m K c' (.inr (j', i))); iexact HR
  iintro ⟨Hc, HO⟩
  iapply Hk
  isplitl [Hc]
  · unfold credit; rw [e₁]; iexact Hc
  · iexists W; iexact HO

/-! ## The first exchange -/

/-- What the first exchange takes at a chunk. -/
def sendIn (c : Dev nD) (i : Fin 16) : sProp 𝕄 :=
  iprop(credit c (.inr (0, i)) ∗ pos c (.inr (0, i)) ∗ any_ c (sendS i) ∗ any_ (yp c) (recvS i) ∗ tok c (.inr (2, i)) 0 ∗ tok (yp c) (.inr (3, i)) 0)
/-- What it gives. -/
def sendOut (c : Dev nD) (i : Fin 16) : sProp 𝕄 :=
  iprop(at_ c (argS c i) fullShare (chunkX m c i) ∗ at_ c (xhS i) fullShare (chunkX m c i) ∗ zero c (.inr (0, i)) ∗ credit c (.inr (2, i)))

theorem step_sendChunk (i : Fin 16) (Ls : List (Fin 16)) :
    iprop(records m K ∗ sendIn c i ∗ ow c (owedSend c (i :: Ls))) ⊢ Wp c (sendChunk c i) (fun _ => iprop(sendOut m c i ∗ ow c (owedSend c Ls))) := by
  unfold sendChunk sendIn sendOut
  simp only [Prog.lift, Prog.bind_op, Prog.bind_ret, Prog.pure_eq_ret]
  iintro ⟨#HR, ⟨Hc, Hat, ⟨%Y, Hsnd⟩, Hrcv, Ht, Ht'⟩, HO⟩
  iapply (wait_dma m K c 0 i (argS c i) (xhS i) _ _ (credit_xh i) (owedSend c (i :: Ls)) (above_owedSend (Nat.zero_le _) c _) _) $$ [Hc Hat HO]
  · isplitr; · iexact HR
    isplitl [Hc]; · iexact Hc
    isplitl [Hat]; · iexact Hat
    iexact HO
  unfold dmaPay
  iintro ⟨⟨Hxh, Harg⟩, Hz, HO⟩
  iapply (load_chunk c xhM (rowsR i) (fun _ => rfl) _ fullShare (chunkX m c i) _) $$ Hxh; iintro Hxh
  iapply (load_chunk c sendM (rowsR i) (fun _ => rfl) _ fullShare Y _) $$ Hsnd; iintro Hsnd
  iapply (store_chunk c sendM (rowsR i) (fun _ => rfl) (narrow (chunkX m c i)) _ _ Y _) $$ Hsnd; iintro Hsnd
  iapply (send_chunk m K c (yp c) 2 3 i (sendS i) (recvS i) _ _ _ _ fullShare (chunkSent m c i) (credit_recv i) (by decide) (by decide)
    rfl (by show at_ (yp c) (recvS i) fullShare (chunkSent m (yp (yp c)) i) = _; rw [yp_yp]) (owedSend c Ls) _) $$ [Hsnd Hrcv Ht Ht' HO]
  · isplitr; · iexact HR
    isplitl [Hsnd]; · iexact Hsnd
    isplitl [Hrcv]; · iexact Hrcv
    isplitl [Ht]; · iexact Ht
    isplitl [Ht']; · iexact Ht'
    iexact HO
  iintro ⟨Hc, HO⟩
  iapply (wp_done c)
  isplitr [HO]
  · isplitl [Harg]; · iexact Harg
    isplitl [Hxh]; · iexact Hxh
    isplitl [Hz]; · iexact Hz
    iexact Hc
  iexact HO

/-! ## The second exchange -/

/-- What the second exchange takes at a chunk. -/
def addIn (c : Dev nD) (i : Fin 16) : sProp 𝕄 :=
  iprop(credit c (.inr (3, i)) ∗ pos c (.inr (3, i)) ∗ at_ c (xhS i) fullShare (chunkX m c i) ∗ any_ c (sumS i) ∗ any_ c (outS c i) ∗ any_ (xp c) (outS c i)
    ∗ tok c (.inr (1, i)) 0 ∗ tok c (.inr (4, i)) 0 ∗ tok (xp c) (.inr (5, i)) 0)
/-- What it gives. -/
def addOut (c : Dev nD) (i : Fin 16) : sProp 𝕄 :=
  iprop(at_ c (xhS i) fullShare (chunkX m c i) ∗ at_ c (recvS i) fullShare (chunkSent m (yp c) i) ∗ zero c (.inr (3, i)) ∗ credit c (.inr (1, i)) ∗ credit c (.inr (4, i)))

theorem step_addChunk (i : Fin 16) (Ls : List (Fin 16)) :
    iprop(records m K ∗ addIn m c i ∗ ow c (owedAdd c (i :: Ls))) ⊢ Wp c (addChunk c i) (fun _ => iprop(addOut m c i ∗ ow c (owedAdd c Ls))) := by
  unfold addChunk addIn addOut
  simp only [Prog.lift, Prog.bind_op, Prog.bind_ret, Prog.pure_eq_ret]
  iintro ⟨#HR, ⟨Hc, Hat, Hxh, ⟨%Y, Hsum⟩, ⟨%Z, Hout⟩, Hout', Ht, Ht', Ht''⟩, HO⟩
  iapply (wait_dma m K c 3 i (sendS i) (recvS i) _ _ (credit_recv i) (owedAdd c (i :: Ls)) (above_owedAdd le_rfl c _) _) $$ [Hc Hat HO]
  · isplitr; · iexact HR
    isplitl [Hc]; · iexact Hc
    isplitl [Hat]; · iexact Hat
    iexact HO
  unfold dmaPay
  iintro ⟨Hrcv, Hz, HO⟩
  iapply (load_chunk c xhM (rowsR i) (fun _ => rfl) _ fullShare (chunkX m c i) _) $$ Hxh; iintro Hxh
  iapply (load_chunk c recvM (rowsR i) (fun _ => rfl) _ fullShare (chunkSent m (yp c) i) _) $$ Hrcv; iintro Hrcv
  iapply (load_chunk c sumM (rowsR i) (fun _ => rfl) _ fullShare Y _) $$ Hsum; iintro Hsum
  iapply (store_chunk c sumM (rowsR i) (fun _ => rfl) (added (chunkX m c i) (chunkSent m (yp c) i)) _ _ Y _) $$ Hsum; iintro Hsum
  ihave Hsum := (show at_ c (sumM.slice (rowsR i) (fun _ => rfl)) fullShare (added (chunkX m c i) (chunkSent m (yp c) i))
      ⊢ iprop(at_ c (sumS i) fullShare.left (chunkSum m c i) ∗ at_ c (sumS i) fullShare.right (chunkSum m c i)) from
    (owns_halves (c : Thread nD τ) (sumS i) fullShare (chunkSum m c i)).1) $$ Hsum
  icases Hsum with ⟨Hl, Hr⟩
  iapply (copy_chunk m K c 1 i (sumS i) (outS c i) _ _ _ fullShare.left (chunkSum m c i) (credit_out c i) rfl _) $$ [Hl Hout Ht]
  · isplitr; · iexact HR
    isplitl [Hl]; · iexact Hl
    isplitl [Hout]; · iexists Z; iexact Hout
    iexact Ht
  iintro Hcs
  iapply (send_chunk m K c (xp c) 4 5 i (sumS i) (outS c i) _ _ _ _ fullShare.right (chunkSum m c i) (credit_out c i) (by decide) (by decide)
    rfl (by show at_ (xp c) (outS (xp (xp c)) i) fullShare (chunkSum m (xp (xp c)) i) = _; rw [xp_xp]) (owedAdd c Ls) _) $$ [Hr Hout' Ht' Ht'' HO]
  · isplitr; · iexact HR
    isplitl [Hr]; · iexact Hr
    isplitl [Hout']; · iexact Hout'
    isplitl [Ht']; · iexact Ht'
    isplitl [Ht'']; · iexact Ht''
    iexact HO
  iintro ⟨Hc, HO⟩
  iapply (wp_done c)
  isplitr [HO]
  · isplitl [Hxh]; · iexact Hxh
    isplitl [Hrcv]; · iexact Hrcv
    isplitl [Hz]; · iexact Hz
    isplitl [Hcs]; · iexact Hcs
    iexact Hc
  iexact HO

/-! ## The four waits at the end -/

/-- What a wait takes. -/
def waitIn (j : Fin 6) (c : Dev nD) (i : Fin 16) : sProp 𝕄 := iprop(credit c (.inr (j, i)) ∗ pos c (.inr (j, i)))
/-- What it gives. -/
def waitOut (j : Fin 6) (c : Dev nD) (i : Fin 16) : sProp 𝕄 := iprop(dmaPay m c i j ∗ zero c (.inr (j, i)))

/-- A stretch that is one wait, while only the closing barrier's signals are owed. -/
theorem step_wait (j : Fin 6) (hj : level (.inr (j, 0)) ≤ 3) (i : Fin 16) {sp sp' : Space} {sh sh' : Shape} {e e' : EltTy} (src : Memref sig .tc sp' sh' e')
    (dst : Memref sig .tc sp sh e) (hsrc : src.view.WordExact) (hdst : dst.view.WordExact) (hN : dst.view.dmaCredit = units (.inr (j, i))) :
    iprop(records m K ∗ waitIn j c i ∗ ow c (owedEnd c))
      ⊢ Wp c (Prog.lift (.waitDma2 (semAt (semArr j) i) src dst hsrc hdst)) (fun _ => iprop(waitOut m j c i ∗ ow c (owedEnd c))) := by
  unfold waitIn waitOut
  simp only [Prog.lift]
  iintro ⟨#HR, ⟨Hc, Hat⟩, HO⟩
  iapply (wait_dma m K c j i src dst hsrc hdst hN (owedEnd c) (above_end hj c) _) $$ [Hc Hat HO]
  · isplitr; · iexact HR
    isplitl [Hc]; · iexact Hc
    isplitl [Hat]; · iexact Hat
    iexact HO
  iintro ⟨Hp, Hz, HO⟩
  iapply (wp_done c)
  isplitr [HO]
  · isplitl [Hp]; · iexact Hp
    iexact Hz
  iexact HO

theorem step_waitS2r (i : Fin 16) :
    iprop(records m K ∗ waitIn 5 c i ∗ ow c (owedEnd c)) ⊢ Wp c (waitS2r c i) (fun _ => iprop(waitOut m 5 c i ∗ ow c (owedEnd c))) :=
  step_wait m K c 5 (by decide) i _ _ _ _ (credit_out c i)
theorem step_waitStore (i : Fin 16) :
    iprop(records m K ∗ waitIn 1 c i ∗ ow c (owedEnd c)) ⊢ Wp c (waitStore c i) (fun _ => iprop(waitOut m 1 c i ∗ ow c (owedEnd c))) :=
  step_wait m K c 1 (by decide) i _ _ _ _ (credit_out c i)
theorem step_waitS1s (i : Fin 16) :
    iprop(records m K ∗ waitIn 2 c i ∗ ow c (owedEnd c)) ⊢ Wp c (waitS1s i) (fun _ => iprop(waitOut m 2 c i ∗ ow c (owedEnd c))) :=
  step_wait m K c 2 (by decide) i _ _ _ _ (credit_send i)
theorem step_waitS2s (i : Fin 16) :
    iprop(records m K ∗ waitIn 4 c i ∗ ow c (owedEnd c)) ⊢ Wp c (waitS2s c i) (fun _ => iprop(waitOut m 4 c i ∗ ow c (owedEnd c))) :=
  step_wait m K c 4 (by decide) i _ _ _ _ (credit_sum i)

/-! ## The barriers -/

/-- What a device hands its peers on a barrier, and what it gets: on the closing one nothing. -/
def meetIn (b : Fin 2) (c : Dev nD) : sProp 𝕄 :=
  iprop((tok (xp c) (.inl b) 0 ∗ pay m (xp c) (.inl b) 0) ∗ (tok (yp c) (.inl b) 1 ∗ pay m (yp c) (.inl b) 1) ∗ (tok (dp c) (.inl b) 2 ∗ pay m (dp c) (.inl b) 2)
    ∗ cred (tallyAt (cellAt c (.inl b)) () 3) ∗ pos c (.inl b))
def meetOut (b : Fin 2) (c : Dev nD) : sProp 𝕄 :=
  iprop((pay m c (.inl b) 0 ∗ pay m c (.inl b) 1 ∗ pay m c (.inl b) 2) ∗ zero c (.inl b))

theorem bar_duty (c : Dev nD) (b : Fin 2) (d : Fin 3) : d ∈ (meshRd m).duties (cellAt c (.inl b)) 0 := by
  rw [duties_at]; exact Finset.mem_univ _

/-- One signal of a barrier: the token, what it hands over, and one unit less owed. -/
theorem signal_one {α : Type} {Q : α → sProp 𝕄} (c' : Dev nD) (b : Fin 2) (s : Sem sig) (hs : csem (.inl b) = .reg s) (d : Fin 3) (O : CellTallies nD τ sig Unit)
    (k : PUnit → Prog (TpuEff nD τ sig (Elt F) Λ₀ .tc) α) :
    iprop(records m K ∗ (tok c' (.inl b) d ∗ pay m c' (.inl b) d) ∗ ow c (O + tallyAt (cellAt c' (.inl b)) () 1))
      ⊢ iprop((ow c O -∗ Wp c (k ⟨⟩) Q) -∗ Wp c (.op (.semSignal (Dev.tc c' : Thread nD τ) s (1#32).toNat) k) Q) := by
  have hd := bar_duty m c' b d
  have ha := amount_at m c' (.inl b) d
  have hp := payload_at m c' (.inl b) d
  have hr := records_reached m K c' (.inl b)
  have hi := records_inv m K c' (.inl b)
  unfold tok
  unfold cellAt at *
  rw [hs] at *
  unfold ow
  iintro ⟨#HR, ⟨Ht, Hp⟩, ⟨%W, HO⟩⟩ Hk
  iapply (Rounds.wp_signal 𝒱₀ ER (meshRd m) (c : Thread nD τ) none (dst := (c' : Thread nD τ)) (κ := K (c', .inl b))
      (d := d) hd (ha.trans rfl) () O rfl (W := W)) $$ [HO Ht Hp]
  · isplitr; · iapply hi; iexact HR
    isplitl [HO]; · iexact HO
    isplitl [Ht]; · iexact Ht
    isplitl [Hp]; · rw [hp]; iexact Hp
    iapply hr; iexact HR
  iintro HO
  iapply Hk
  iexists W; iexact HO

/-- A barrier: the three signals, and the wait for the three of the peers. -/
theorem step_meet (b : Fin 2) (s : Sem sig) (hs : csem (.inl b) = .reg s) (O : CellTallies nD τ sig Unit) (hO : Above (level (.inl b)) O) :
    iprop(records m K ∗ meetIn m b c ∗ ow c (owedMeet c b O)) ⊢ Wp c (meet c s) (fun _ => iprop(meetOut m b c ∗ ow c O)) := by
  have hi := records_inv m K c (.inl b)
  have hw := (mayWait_of_above (F := F) c (.inl b) O hO)
  have hx := expect_bar m c b
  have hrest := rest_bar m c b
  have hz := fun h => Rounds.cell_close ER (meshRd m) (Set.mem_univ (K (c, .inl b))) h (R := 0 + 1) (duties_later m (cellAt c (.inl b)))
  unfold meet meetIn meetOut owedMeet
  simp only [semSignalWord, semWaitWord, Prog.lift, Prog.bind_op, Prog.bind_ret, Prog.pure_eq_ret]
  iintro ⟨#HR, ⟨Hx, Hy, Hd, Hc, Hat⟩, HO⟩
  iapply (signal_one m K c (xp c) b s hs 0 _ _) $$ [Hx HO]
  · isplitr; · iexact HR
    isplitl [Hx]; · iexact Hx
    iexact HO
  iintro HO
  iapply (signal_one m K c (yp c) b s hs 1 _ _) $$ [Hy HO]
  · isplitr; · iexact HR
    isplitl [Hy]; · iexact Hy
    iexact HO
  iintro HO
  iapply (signal_one m K c (dp c) b s hs 2 _ _) $$ [Hd HO]
  · isplitr; · iexact HR
    isplitl [Hd]; · iexact Hd
    iexact HO
  iintro HO
  unfold pos zero cellAt at *
  rw [hs] at *
  unfold ow
  icases HO with ⟨%W, HO⟩
  iapply (Rounds.wp_wait_rest_token 𝒱₀ ER (meshRd m) (c : Thread nD τ) none (κ := K (c, .inl b))
      (wpE_semWait_eq 𝒱₀ (c : Thread nD τ) none Set.univ) (Set.mem_univ _) () (O := O) (W := W) (R := 0) (m := 0) (T := ∅)
      (by rw [hx]; decide)) $$ [Hc Hat HO]
  · isplitr; · iapply hi; iexact HR
    isplitl [Hc]; · iexact Hc
    isplitl [HO]; · iexact HO
    isplitr; · iapply hw; iapply (records_lev m K); iexact HR
    iexact Hat
  iintro ⟨HO, Hat, -, Hpay⟩
  imod (hz (fun h => h)) $$ [Hat] with Hz
  · isplitr; · iapply hi; iexact HR
    iexact Hat
  ihave Hp := (Entails.of_eq hrest) $$ Hpay
  iapply (wp_done c)
  isplitr [HO]
  · isplitl [Hp]; · iexact Hp
    iexact Hz
  iexists _; iexact HO

/-! ## The loops -/

/-- A stretch proved at every chunk, run over a list of distinct chunks. -/
theorem each_run (f : Fin 16 → Prog (TpuEff nD τ sig (Elt F) Λ₀ .tc) PUnit) (R R' : Fin 16 → sProp 𝕄) (O : List (Fin 16) → sProp 𝕄)
    (h : ∀ i Ls, iprop(records m K ∗ R i ∗ O (i :: Ls)) ⊢ Wp c (f i) (fun _ => iprop(R' i ∗ O Ls))) :
    ∀ Ls : List (Fin 16), Ls.Nodup →
      iprop(records m K ∗ bigSep Ls.toFinset R ∗ O Ls) ⊢ Wp c (each f Ls) (fun _ => iprop(bigSep Ls.toFinset R' ∗ O []))
  | [], _ => by
    unfold each
    rw [List.toFinset_nil, bigSep_empty, bigSep_empty, Prog.pure_eq_ret]
    iintro ⟨-, H⟩
    iapply (wp_done c); iexact H
  | i :: Ls, hnd => by
    have hn : i ∉ Ls.toFinset := fun hm => (List.nodup_cons.mp hnd).1 (List.mem_toFinset.mp hm)
    have e (Φ : Fin 16 → sProp 𝕄) : bigSep (insert i Ls.toFinset) Φ = iprop(Φ i ∗ bigSep Ls.toFinset Φ) := bigSep_insert hn
    unfold each
    rw [List.toFinset_cons, e R, e R']
    iintro ⟨#HR, ⟨Hi, HL⟩, HO⟩
    iapply (wp_then c (h i Ls)) $$ [Hi HO]
    · isplitr; · iexact HR
      isplitl [Hi]; · iexact Hi
      iexact HO
    iintro ⟨Hi, HO⟩
    iapply (wp_wand frame (wpE (defs₀ (F := F)) 𝒱₀ (c : Thread nD τ) none) Set.univ) $$ [HL HO]
    · iapply (each_run f R R' O h Ls (List.nodup_cons.mp hnd).2)
      isplitr; · iexact HR
      isplitl [HL]; · iexact HL
      iexact HO
    iintro %_ ⟨HL, HO⟩
    isplitr [HO]
    · isplitl [Hi]; · iexact Hi
      iexact HL
    iexact HO

/-- A stretch proved at every chunk, run over all of them. -/
theorem all_run (f : Fin 16 → Prog (TpuEff nD τ sig (Elt F) Λ₀ .tc) PUnit) (R R' : Fin 16 → sProp 𝕄) (O : List (Fin 16) → sProp 𝕄)
    (h : ∀ i Ls, iprop(records m K ∗ R i ∗ O (i :: Ls)) ⊢ Wp c (f i) (fun _ => iprop(R' i ∗ O Ls))) :
    iprop(records m K ∗ bigSep Finset.univ R ∗ O chunks) ⊢ Wp c (each f chunks) (fun _ => iprop(bigSep Finset.univ R' ∗ O [])) := by
  have hu : (Finset.univ : Finset (Fin 16)) = chunks.toFinset := by decide
  rw [hu]
  exact each_run m K c f R R' O h chunks (by decide)

end

end
-- ==== Proof.Body.lean ====
/-
# The whole body on one device

The stretches in order: the opening barrier, the copies, the two exchanges, the four rounds of waits, the closing
barrier. A device starts with its tokens and its memory cut into chunks, and ends with the chunks at their final contents
and every semaphore at zero.
-/
module

public import proofs.«01_k».proof.Proof.Steps

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- What the tokens of chunk `i` are: the duties `c` pays, its positions, and the two landings it may await that others
    start. -/
def dealt (i : Fin 16) : sProp 𝕄 :=
  iprop((tok c (.inr (0, i)) 0 ∗ tok c (.inr (1, i)) 0 ∗ tok c (.inr (2, i)) 0 ∗ tok (yp c) (.inr (3, i)) 0 ∗ tok c (.inr (4, i)) 0 ∗ tok (xp c) (.inr (5, i)) 0)
    ∗ (pos c (.inr (0, i)) ∗ pos c (.inr (1, i)) ∗ pos c (.inr (2, i)) ∗ pos c (.inr (3, i)) ∗ pos c (.inr (4, i)) ∗ pos c (.inr (5, i)))
    ∗ credit c (.inr (3, i)) ∗ credit c (.inr (5, i)))

/-- The memory of chunk `i` that `c` keeps: its rows of the argument, of three scratch buffers and of the result. -/
def keptIn (i : Fin 16) : sProp 𝕄 :=
  iprop(at_ c (argS c i) fullShare (chunkX m c i) ∗ any_ c (xhS i) ∗ any_ c (sendS i) ∗ any_ c (sumS i) ∗ any_ c (outS c i))

/-- The memory of chunk `i` at the end: the argument, the four scratch buffers and both halves' rows of the result. -/
def keptOut (i : Fin 16) : sProp 𝕄 :=
  iprop(at_ c (argS c i) fullShare (chunkX m c i) ∗ at_ c (xhS i) fullShare (chunkX m c i) ∗ at_ c (sendS i) fullShare (chunkSent m c i)
    ∗ at_ c (recvS i) fullShare (chunkSent m (yp c) i) ∗ at_ c (sumS i) fullShare (chunkSum m c i)
    ∗ at_ c (outS c i) fullShare (chunkSum m c i) ∗ at_ c (outS (xp c) i) fullShare (chunkSum m (xp c) i))

/-- The six semaphores of chunk `i` at zero. -/
def zeros (i : Fin 16) : sProp 𝕄 :=
  iprop(zero c (.inr (0, i)) ∗ zero c (.inr (1, i)) ∗ zero c (.inr (2, i)) ∗ zero c (.inr (3, i)) ∗ zero c (.inr (4, i)) ∗ zero c (.inr (5, i)))

/-- The two half shares of the sum rows are the whole. -/
theorem sum_rejoin (i : Fin 16) :
    iprop(at_ c (sumS i) fullShare.left (chunkSum m c i) ∗ at_ c (sumS i) fullShare.right (chunkSum m c i)) ⊢ at_ c (sumS i) fullShare (chunkSum m c i) :=
  (owns_halves (c : Thread nD τ) (sumS i) fullShare (chunkSum m c i)).2

theorem body_run :
    iprop(records m K ∗ meetIn m 0 c ∗ (bigSep Finset.univ fun i => dealt c i) ∗ (bigSep Finset.univ fun i => keptIn m c i) ∗ meetIn m 1 c ∗ ow c (owedStart c))
      ⊢ Wp c (bodyOn c) (fun _ => iprop((bigSep Finset.univ fun i => keptOut m c i) ∗ (bigSep Finset.univ fun i => zeros c i)
          ∗ zero c (.inl 0) ∗ zero c (.inl 1) ∗ ow c 0)) := by
  unfold bodyOn dealt keptIn
  simp only [bigSep_sep']
  iintro ⟨#HR, HB, ⟨⟨T0, T1, T2, T3, T4, T5⟩, ⟨P0, P1, P2, P3, P4, P5⟩, C3, C5⟩, ⟨Harg, Hxh, Hsnd, Hsum, Hout⟩, HE, HO⟩
  -- the opening barrier
  iapply (wp_then c (step_meet m K c 0 barC rfl (owedSend c chunks) (above_owedSend le_rfl c _))) $$ [HB HO]
  · isplitr; · iexact HR
    isplitl [HB]; · iexact HB
    iexact HO
  unfold meetOut
  iintro ⟨⟨⟨Houtx, Hrcvy, -⟩, Z⟩, HO⟩
  ihave Houtx := (Entails.of_eq (show pay m c (.inl 0) 0 = bigSep Finset.univ fun i : Fin 16 => any_ (xp c) (outS c i) from rfl)) $$ Houtx
  ihave Hrcvy := (Entails.of_eq (show pay m c (.inl 0) 1 = bigSep Finset.univ fun i : Fin 16 => any_ (yp c) (recvS i) from rfl)) $$ Hrcvy
  -- the copies
  iapply (wp_then c (all_run m K c (startCopy c) (copyIn m c) (fun i => credit c (.inr (0, i))) (fun _ => iprop(emp)) (fun i _ => step_startCopy m K c i _))) $$ [Harg Hxh T0]
  · isplitr; · iexact HR
    unfold copyIn; simp only [bigSep_sep']
    isplitl [Harg Hxh T0]
    · isplitl [Harg]; · iexact Harg
      isplitl [Hxh]; · iexact Hxh
      iexact T0
    iempintro
  iintro ⟨C0, -⟩
  -- the first exchange
  iapply (wp_then c (all_run m K c (sendChunk c) (sendIn c) (sendOut m c) (fun Ls => ow c (owedSend c Ls)) (step_sendChunk m K c))) $$ [C0 P0 Hsnd Hrcvy T2 T3 HO]
  · isplitr; · iexact HR
    unfold sendIn; simp only [bigSep_sep']
    isplitl [C0 P0 Hsnd Hrcvy T2 T3]
    · isplitl [C0]; · iexact C0
      isplitl [P0]; · iexact P0
      isplitl [Hsnd]; · iexact Hsnd
      isplitl [Hrcvy]; · iexact Hrcvy
      isplitl [T2]; · iexact T2
      iexact T3
    iexact HO
  unfold sendOut; simp only [bigSep_sep']
  iintro ⟨⟨Harg, Hxh, Z0, C2⟩, HO⟩
  -- the second exchange
  iapply (wp_then c (all_run m K c (addChunk c) (addIn m c) (addOut m c) (fun Ls => ow c (owedAdd c Ls)) (step_addChunk m K c))) $$ [C3 P3 Hxh Hsum Hout Houtx T1 T4 T5 HO]
  · isplitr; · iexact HR
    unfold addIn; simp only [bigSep_sep']
    isplitl [C3 P3 Hxh Hsum Hout Houtx T1 T4 T5]
    · isplitl [C3]; · iexact C3
      isplitl [P3]; · iexact P3
      isplitl [Hxh]; · iexact Hxh
      isplitl [Hsum]; · iexact Hsum
      isplitl [Hout]; · iexact Hout
      isplitl [Houtx]; · iexact Houtx
      isplitl [T1]; · iexact T1
      isplitl [T4]; · iexact T4
      iexact T5
    iexact HO
  unfold addOut; simp only [bigSep_sep']
  iintro ⟨⟨Hxh, Hrcv, Z3, C1, C4⟩, HO⟩
  -- the four rounds of waits
  iapply (wp_then c (all_run m K c (waitS2r c) (waitIn 5 c) (waitOut m 5 c) (fun _ => ow c (owedEnd c)) (fun i _ => step_waitS2r m K c i))) $$ [C5 P5 HO]
  · isplitr; · iexact HR
    unfold waitIn; simp only [bigSep_sep']
    isplitl [C5 P5]
    · isplitl [C5]; · iexact C5
      iexact P5
    iexact HO
  iintro ⟨W5, HO⟩
  iapply (wp_then c (all_run m K c (waitStore c) (waitIn 1 c) (waitOut m 1 c) (fun _ => ow c (owedEnd c)) (fun i _ => step_waitStore m K c i))) $$ [C1 P1 HO]
  · isplitr; · iexact HR
    unfold waitIn; simp only [bigSep_sep']
    isplitl [C1 P1]
    · isplitl [C1]; · iexact C1
      iexact P1
    iexact HO
  iintro ⟨W1, HO⟩
  iapply (wp_then c (all_run m K c waitS1s (waitIn 2 c) (waitOut m 2 c) (fun _ => ow c (owedEnd c)) (fun i _ => step_waitS1s m K c i))) $$ [C2 P2 HO]
  · isplitr; · iexact HR
    unfold waitIn; simp only [bigSep_sep']
    isplitl [C2 P2]
    · isplitl [C2]; · iexact C2
      iexact P2
    iexact HO
  iintro ⟨W2, HO⟩
  iapply (wp_then c (all_run m K c (waitS2s c) (waitIn 4 c) (waitOut m 4 c) (fun _ => ow c (owedEnd c)) (fun i _ => step_waitS2s m K c i))) $$ [C4 P4 HO]
  · isplitr; · iexact HR
    unfold waitIn; simp only [bigSep_sep']
    isplitl [C4 P4]
    · isplitl [C4]; · iexact C4
      iexact P4
    iexact HO
  iintro ⟨W4, HO⟩
  -- the closing barrier
  iapply (wp_wand frame (wpE (defs₀ (F := F)) 𝒱₀ (c : Thread nD τ) none) Set.univ) $$ [HE HO]
  · iapply (step_meet m K c 1 endC rfl 0 (above_zero _))
    isplitr; · iexact HR
    isplitl [HE]; · iexact HE
    iexact HO
  unfold meetOut waitOut dmaPay keptOut zeros; simp only [bigSep_sep']
  iintro %_ ⟨⟨-, Z'⟩, HO⟩
  icases W5 with ⟨Houtx, Z5⟩
  icases W1 with ⟨⟨Hout, Hl⟩, Z1⟩
  icases W2 with ⟨Hsnd, Z2⟩
  icases W4 with ⟨Hr, Z4⟩
  isplitl [Harg Hxh Hsnd Hrcv Hl Hr Hout Houtx]
  · isplitl [Harg]; · iexact Harg
    isplitl [Hxh]; · iexact Hxh
    isplitl [Hsnd]; · iexact Hsnd
    isplitl [Hrcv]; · iexact Hrcv
    isplitl [Hl Hr]
    · iapply (show iprop((bigSep Finset.univ fun i => at_ c (sumS i) fullShare.left (chunkSum m c i)) ∗ (bigSep Finset.univ fun i => at_ c (sumS i) fullShare.right (chunkSum m c i)))
          ⊢ bigSep Finset.univ fun i => at_ c (sumS i) fullShare (chunkSum m c i) from by
        rw [← bigSep_sep']; exact bigSep_mono fun i _ => sum_rejoin m c i)
      isplitl [Hl]; · iexact Hl
      iexact Hr
    isplitl [Hout]; · iexact Hout
    iexact Houtx
  isplitl [Z0 Z1 Z2 Z3 Z4 Z5]
  · isplitl [Z0]; · iexact Z0
    isplitl [Z1]; · iexact Z1
    isplitl [Z2]; · iexact Z2
    isplitl [Z3]; · iexact Z3
    isplitl [Z4]; · iexact Z4
    iexact Z5
  isplitl [Z]; · iexact Z
  isplitl [Z']; · iexact Z'
  iexact HO

end
-- ==== Proof.Deal.lean ====
/-
# What the launch deals each device

Every cell's round is opened once for the whole mesh, and every duty's token goes to the device that pays the duty: a
barrier's to the peer that signals, a receive cell's to the neighbour that sends, any other to the device itself. Each
device may await on its own cells as many units as the others owe there.
-/
module

public import proofs.«01_k».proof.Proof.Body
public import Idealize.ShloMosaic.Lib.Pipeline.Launch
public import Idealize.ShloMosaic.Lib.Pipeline.Kit

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The duties and who pays them -/

/-- The duties on a device's cells: three on each barrier, one on every other cell. -/
abbrev Duty : Type := Fin 2 × Fin 3 ⊕ Fin 6 × Fin 16

/-- The cell a duty is on, and its number there. -/
abbrev cellOfDuty : Duty → Cell
  | .inl (b, _) => .inl b
  | .inr x => .inr x
abbrev numOfDuty : Duty → Fin 3
  | .inl (_, k) => k
  | .inr _ => 0

/-- The device that pays a duty on `c`'s cell; equally, the device on whose cell `c` pays it. -/
def payer : Duty → Dev nD → Dev nD
  | .inl (_, k) => peer k
  | .inr (j, _) => if j = 3 then yp else if j = 5 then xp else id

theorem payer_payer (d : Duty) (c : Dev nD) : payer d (payer d c) = c := by
  rcases d with ⟨b, k⟩ | ⟨j, i⟩
  · exact peer_peer k c
  · unfold payer
    dsimp only
    split
    · exact yp_yp c
    · split
      · exact xp_xp c
      · rfl

/-- Each duty pairs the devices up. -/
def payerEquiv (d : Duty) : Dev nD ≃ Dev nD := ⟨payer d, payer d, payer_payer d, payer_payer d⟩

/-! ## The cells and the tokens, for the whole mesh -/

theorem cellAt_injective : Function.Injective (fun ck : Dev nD × Cell => cellAt ck.1 ck.2) := fun a b h =>
  Prod.ext (cellAt_inj h).1 (cellAt_inj h).2

def allCells : Finset (GSem nD τ sig) := Finset.univ.map ⟨_, cellAt_injective⟩

abbrev tokenOf (cd : Dev nD × Duty) : GSem nD τ sig × ℕ × Fin 3 := (cellAt cd.1 (cellOfDuty cd.2), 0, numOfDuty cd.2)

theorem tokenOf_injective : Function.Injective tokenOf := by
  rintro ⟨c, d⟩ ⟨c', d'⟩ h
  obtain ⟨rfl, hk⟩ := cellAt_inj (congrArg Prod.fst h)
  have hn : numOfDuty d = numOfDuty d' := congrArg (fun x : GSem nD τ sig × ℕ × Fin 3 => x.2.2) h
  rcases d with ⟨b, k⟩ | x <;> rcases d' with ⟨b', k'⟩ | x'
  · rw [Sum.inl.inj hk, show k = k' from hn]
  · cases hk
  · cases hk
  · rw [Sum.inr.inj hk]

def allTokens : Finset (GSem nD τ sig × ℕ × Fin 3) := Finset.univ.map ⟨_, tokenOf_injective⟩

/-- The element the launch starts from: the (empty) pipeline's, and the mesh's cells and tokens. -/
def u₀ : UU := (initOf (Pipeline.cells cfgs cellOf_inj) (Pipeline.launchToks cfgs cellOf_inj), initOf allCells allTokens)

/-- What it gives device `c`: its cells' rounds unopened, its positions, and the tokens of the duties on its cells. -/
def minted (c : Dev nD) : sProp 𝕄 :=
  iprop((bigSep Finset.univ fun k : Cell => roundState ER (meshRd m) (cellAt c k) 0)
    ∗ (bigSep Finset.univ fun k : Cell => reached ER (cellAt c k) 0)
    ∗ (bigSep Finset.univ fun k : Cell => pos c k)
    ∗ (bigSep Finset.univ fun d : Duty => tok c (cellOfDuty d) (numOfDuty d)))

theorem over_cells (Φ : GSem nD τ sig → sProp 𝕄) :
    bigSep allCells Φ = bigSep Finset.univ fun c : Dev nD => bigSep Finset.univ fun k : Cell => Φ (cellAt c k) := by
  unfold allCells; rw [bigSep_map, bigSep_univ_prod]; rfl

theorem over_tokens :
    bigSep allTokens (fun x => (dutyTok ER x.1 x.2.1 x.2.2 : sProp 𝕄))
      = bigSep Finset.univ fun c : Dev nD => bigSep Finset.univ fun d : Duty => tok c (cellOfDuty d) (numOfDuty d) := by
  unfold allTokens; rw [bigSep_map, bigSep_univ_prod]; rfl

theorem mint : BI.own (ER (initOf allCells allTokens)) ⊢ (|==> bigSep Finset.univ (minted m) : sProp 𝕄) := by
  have h : (iprop(bigSep allCells (fun g => roundState ER (meshRd m) g 0) ∗ bigSep allCells (fun g => reached ER g 0)
      ∗ bigSep allCells (fun g => atPos ER g 0 ∅ 0) ∗ bigSep allTokens (fun x => dutyTok ER x.1 x.2.1 x.2.2)) : sProp 𝕄)
      = bigSep Finset.univ (minted m) := by
    rw [over_cells, over_cells, over_cells, over_tokens]
    unfold minted
    rw [bigSep_sep', bigSep_sep', bigSep_sep']
  exact (Rounds.fund ER (meshRd m) allCells allTokens).trans (BI.bupd_mono (Entails.of_eq h))

/-! ## The semaphores at zero -/

/-- The kernel's own semaphores: the closing barrier and the six arrays. -/
abbrev osem : Unit ⊕ Fin 6 × Fin 16 → SemLoc sig
  | .inl _ => csem (.inl 1)
  | .inr x => csem (.inr x)

set_option maxRecDepth 8000 in
theorem osem_scoped : ∀ k, (osem k).isScoped .tc = true := by decide +kernel

theorem osem_injective : Function.Injective osem := by
  rintro (⟨⟩ | x) (⟨⟩ | x') h
  · rfl
  · cases csem_injective (show csem (.inl 1) = csem (.inr x') from h)
  · cases csem_injective (show csem (.inr x) = csem (.inl 1) from h)
  · rw [Sum.inr.inj (csem_injective (show csem (.inr x) = csem (.inr x') from h))]

theorem ownSemFacts : Pipeline.OwnSemFacts cfg0.spec osem := ⟨osem_scoped, osem_injective, fun _ w => w.elim0⟩

abbrev ownZeros (c : Dev nD) : sProp 𝕄 :=
  Pipeline.ownSems0 (Ix := Unit) (Name := ℕ) (U := UU) (Lvl := ℕ) (Val := Elt F) (τ := τ) osem c

theorem ownZeros_eq (c : Dev nD) :
    (ownZeros c : sProp 𝕄) = iprop(zero c (.inl 1) ∗ bigSep Finset.univ fun x : Fin 6 × Fin 16 => zero c (.inr x)) := by
  unfold ownZeros Pipeline.ownSems0
  rw [bigSep_univ_sum, bigSep_univ_of_subsingleton ()]; rfl

/-- The opening barrier's semaphore outlives the kernel. -/
theorem unscopedZeros_eq (c : Dev nD) : (unscopedSems0 c : sProp 𝕄) = zero c (.inl 0) := by
  unfold unscopedSems0; rw [bigSep_eq_bigSepL_of_eq [SemLoc.reg barC] (by decide) (by decide)]; rfl

theorem zeros_eq (c : Dev nD) :
    iprop(ownZeros c ∗ unscopedSems0 c) ⊢ (bigSep Finset.univ fun k : Cell => zero c k : sProp 𝕄) := by
  rw [ownZeros_eq, unscopedZeros_eq, bigSep_univ_sum, bigSep_fin_two]
  show _ ⊢ (iprop((zero c (.inl 0) ∗ zero c (.inl 1)) ∗ bigSep Finset.univ fun x : Fin 6 × Fin 16 => zero c (.inr x)) : sProp 𝕄)
  iintro ⟨⟨H1, Hx⟩, H0⟩
  isplitl [H0 H1]
  · isplitl [H0] <;> iassumption
  iexact Hx

/-! ## The invariants, and the tokens dealt -/

/-- What device `c` is dealt: the tokens of the duties it pays, and its positions. -/
def dealtAll (c : Dev nD) : sProp 𝕄 :=
  iprop((bigSep Finset.univ fun d : Duty => tok (payer d c) (cellOfDuty d) (numOfDuty d)) ∗ bigSep Finset.univ fun k : Cell => pos c k)

/-- Every cell's invariant under the names `K`, and that every cell has reached its round. -/
def opened (K : Dev nD × Cell → ℕ) : sProp 𝕄 :=
  iprop((bigSep Finset.univ fun ck : Dev nD × Cell => cellInv ER (meshRd m) (K ck) (cellAt ck.1 ck.2))
    ∗ (bigSep Finset.univ fun ck : Dev nD × Cell => reached ER (cellAt ck.1 ck.2) 0))

instance opened_persistent (K : Dev nD × Cell → ℕ) : BI.Persistent (opened m K) := by unfold opened; infer_instance

def given (c : Dev nD) : sProp 𝕄 := iprop(∃ K, opened m K ∗ dealtAll c)

/-- One device's cells' invariants allocated. -/
theorem alloc_cells (c : Dev nD) :
    iprop((bigSep Finset.univ fun k : Cell => zero c k) ∗ bigSep Finset.univ fun k : Cell => roundState ER (meshRd m) (cellAt c k) 0)
      ⊢ (|={Set.univ}=> bigSep Finset.univ fun k : Cell => iprop(∃ κ : ℕ, cellInv ER (meshRd m) κ (cellAt c k)) : sProp 𝕄) := by
  rw [← bigSep_sep']
  exact (bigSep_mono fun k _ => (Rounds.body_intro ER (meshRd m) (cellAt c k)).trans inv_alloc).trans (bigSep_fupd _ _)

def allocated (c : Dev nD) : sProp 𝕄 :=
  iprop((bigSep Finset.univ fun k : Cell => iprop(∃ κ : ℕ, cellInv ER (meshRd m) κ (cellAt c k)))
    ∗ (bigSep Finset.univ fun k : Cell => reached ER (cellAt c k) 0)
    ∗ (bigSep Finset.univ fun k : Cell => pos c k)
    ∗ (bigSep Finset.univ fun d : Duty => tok c (cellOfDuty d) (numOfDuty d)))

theorem alloc_core (c : Dev nD) : iprop(ownZeros c ∗ unscopedSems0 c ∗ minted m c) ⊢ (|={Set.univ}=> allocated m c : sProp 𝕄) := by
  unfold minted allocated
  iintro ⟨Ho, Hu, Hst, Hr, Hp, Ht⟩
  ihave Hz := (zeros_eq (F := F) c) $$ [Ho Hu]
  · isplitl [Ho] <;> iassumption
  imod (alloc_cells m c) $$ [Hz Hst] with HI
  · isplitl [Hz] <;> iassumption
  imodintro
  isplitl [HI]; · iexact HI
  isplitl [Hr]; · iexact Hr
  isplitl [Hp] <;> iassumption

/-- The tokens change hands. -/
theorem deal :
    (bigSep Finset.univ fun c : Dev nD => bigSep Finset.univ fun d : Duty => tok c (cellOfDuty d) (numOfDuty d) : sProp 𝕄)
      = bigSep Finset.univ fun c : Dev nD => bigSep Finset.univ fun d : Duty => tok (payer d c) (cellOfDuty d) (numOfDuty d) := by
  rw [bigSep_univ_comm, bigSep_univ_comm fun (c : Dev nD) (d : Duty) => (tok (payer d c) (cellOfDuty d) (numOfDuty d) : sProp 𝕄)]
  exact bigSep_congr fun d _ => bigSep_univ_equiv (payerEquiv d) _

theorem given_intro (K : Dev nD × Cell → ℕ) (c : Dev nD) : iprop(opened m K ∗ dealtAll c) ⊢ (given m c : sProp 𝕄) := by
  unfold given; iintro H; iexists K; iexact H

theorem given_all (K : Dev nD × Cell → ℕ) : iprop(opened m K ∗ bigSep Finset.univ fun c : Dev nD => dealtAll c) ⊢ (bigSep Finset.univ (given m) : sProp 𝕄) :=
  (sep_mono_left (BI.bigSep_of_persistent Finset.univ (opened m K))).trans (by rw [← bigSep_sep']; exact bigSep_mono fun c _ => given_intro m K c)

theorem share_out : (bigSep Finset.univ (allocated m) : sProp 𝕄) ⊢ bigSep Finset.univ (given m) := by
  unfold allocated
  rw [bigSep_sep', bigSep_sep', bigSep_sep', deal,
    ← bigSep_univ_prod (fun ck : Dev nD × Cell => iprop(∃ κ : ℕ, cellInv ER (meshRd m) κ (cellAt ck.1 ck.2))),
    ← bigSep_univ_prod (fun ck : Dev nD × Cell => (reached ER (cellAt ck.1 ck.2) 0 : sProp 𝕄))]
  iintro ⟨HI, HR, Hp, Ht⟩
  ihave HK := (BI.bigSep_exists_pi Finset.univ (fun (ck : Dev nD × Cell) (κ : ℕ) => (cellInv ER (meshRd m) κ (cellAt ck.1 ck.2) : sProp 𝕄))) $$ HI
  icases HK with ⟨%K, HI⟩
  iapply (given_all m K)
  unfold opened dealtAll
  rw [bigSep_sep']
  isplitl [HI HR]
  · isplitl [HI] <;> iassumption
  isplitl [Ht] <;> iassumption

/-- The whole mesh's set-up at the launch. -/
theorem set_up : (bigSep Finset.univ fun c => iprop(ownZeros c ∗ unscopedSems0 c ∗ minted m c) : sProp 𝕄) ⊢ |={Set.univ}=> bigSep Finset.univ (given m) :=
  ((bigSep_mono fun c _ => alloc_core m c).trans (bigSep_fupd _ _)).trans (BI.fupd_mono (share_out m))

/-! ## What the devices owe a cell together -/

/-- Over all devices, one unit amount owed by each to a partner's cell `k'` comes to that amount on each device's cell `k'`. -/
theorem sum_tally (p : Dev nD → Dev nD) (hp : ∀ c, p (p c) = c) (k k' : Cell) (n : ℕ) (c : Dev nD) :
    ∑ d : Dev nD, (tallyAt (cellAt (p d) k') () n : CellTallies nD τ sig Unit) (cellAt c k) () = if k = k' then n else 0 := by
  have h (d : Dev nD) : (tallyAt (cellAt (p d) k') () n : CellTallies nD τ sig Unit) (cellAt c k) () = if d = p c then (if k = k' then n else 0) else 0 := by
    rw [tallyAt_apply]
    by_cases hd : d = p c
    · subst hd
      rw [hp, if_pos rfl]
      by_cases hk : k = k'
      · subst hk; rw [if_pos ⟨rfl, rfl⟩, if_pos rfl]
      · rw [if_neg (fun e => hk (cellAt_inj e.1).2), if_neg hk]
    · rw [if_neg hd, if_neg (fun e => hd (by rw [(cellAt_inj e.1).1, hp]))]
  rw [Finset.sum_congr rfl fun d _ => h d, Finset.sum_ite_eq' Finset.univ (p c) fun _ => if k = k' then n else 0, if_pos (Finset.mem_univ _)]

theorem sum_meet (O : Dev nD → CellTallies nD τ sig Unit) (b : Fin 2) (k : Cell) (c : Dev nD) :
    ∑ d : Dev nD, owedMeet d b (O d) (cellAt c k) () = (∑ d : Dev nD, O d (cellAt c k) ()) + if k = .inl b then 3 else 0 := by
  unfold owedMeet
  simp only [Pi.add_apply, Finsupp.add_apply]
  rw [Finset.sum_add_distrib, Finset.sum_add_distrib, Finset.sum_add_distrib, sum_tally dp dp_dp, sum_tally yp yp_yp, sum_tally xp xp_xp]
  split <;> omega

theorem sum_each (O : Dev nD → CellTallies nD τ sig Unit) (p : Dev nD → Dev nD) (hp : ∀ c, p (p c) = c) (j : Fin 6) (n : ℕ) (k : Cell) (c : Dev nD) :
    ∀ Ls : List (Fin 16), ∑ d : Dev nD, owedEach (O d) (fun i => cellAt (p d) (.inr (j, i))) n Ls (cellAt c k) ()
      = (∑ d : Dev nD, O d (cellAt c k) ()) + (Ls.map fun i => if k = .inr (j, i) then n else 0).sum
  | [] => by rw [List.map_nil, List.sum_nil, Nat.add_zero]; rfl
  | i :: Ls => by
    unfold owedEach
    simp only [Pi.add_apply, Finsupp.add_apply]
    rw [Finset.sum_add_distrib, sum_each O p hp j n k c Ls, sum_tally p hp, List.map_cons, List.sum_cons]
    omega

/-- Among all chunks, one is a given chunk. -/
theorem sum_chunks (j : Fin 6) (n : ℕ) (k : Cell) :
    (chunks.map fun i => if k = .inr (j, i) then n else 0).sum = match k with | .inl _ => 0 | .inr (j', _) => if j' = j then n else 0 := by
  rw [show chunks = List.finRange 16 by decide, ← Fin.sum_univ_def]
  rcases k with b | ⟨j', i'⟩
  · exact Finset.sum_eq_zero fun i _ => if_neg (by simp)
  · dsimp only
    by_cases h : j' = j
    · subst h
      rw [if_pos rfl, Finset.sum_congr rfl fun i _ => show (if (Sum.inr (j', i') : Cell) = .inr (j', i) then n else 0) = if i' = i then n else 0 by simp,
        Finset.sum_ite_eq, if_pos (Finset.mem_univ _)]
    · rw [if_neg h]
      exact Finset.sum_eq_zero fun i _ => if_neg (by simp [h])

/-- What all devices owe each device's cell: three units on a barrier, one landing on a receive cell. -/
def due : Cell → ℕ
  | .inl _ => 3
  | .inr (j, _) => (if j = 5 then nNarrow else 0) + if j = 3 then nNarrow else 0

theorem sum_owed (k : Cell) (c : Dev nD) : ∑ d : Dev nD, owedStart d (cellAt c k) () = due k := by
  unfold owedStart owedSend owedAdd owedEnd
  rw [sum_meet, sum_each _ yp yp_yp, sum_each _ xp xp_xp, sum_meet, sum_chunks, sum_chunks]
  simp only [Pi.zero_apply, Finsupp.zero_apply, Finset.sum_const_zero]
  rcases k with b | ⟨j, i⟩
  · fin_cases b <;> rfl
  · simp only [due, reduceCtorEq, if_false, Nat.zero_add, Nat.add_zero]

theorem launch_at (c : Dev nD) (k : Cell) :
    tallyOn (cellAt c k) (launchCredit (Pipeline.owing owedStart) 0 (cellAt c k)) = (tallyAt (cellAt c k) () (due k) : CellTallies nD τ sig Unit) := by
  unfold tallyAt; refine congrArg _ (Finsupp.ext fun u => ?_); cases u
  rw [Pipeline.launchCredit_owing, Finsupp.single_eq_same, sum_owed]

theorem credits (c : Dev nD) :
    (Pipeline.launchCred owedStart c : sProp 𝕄) ⊢ bigSep Finset.univ fun k : Cell => cred (tallyAt (cellAt c k) () (due k)) := by
  unfold Pipeline.launchCred
  refine (bigSep_subset (Finset.subset_univ (Finset.univ.map ⟨csem, csem_injective⟩))).trans ?_
  rw [bigSep_map]
  exact Entails.of_eq (bigSep_congr fun k _ => by rw [← launch_at]; rfl)

end
-- ==== Proof.Slices.lean ====
/-
# Cutting the buffers into chunks of rows, and joining them

A scratch buffer is its sixteen chunks of rows; the argument and the result are the sixteen chunks of the device's own
half and the sixteen of its neighbour's half.
-/
module

public import proofs.«01_k».proof.Proof.Protocol
public import Idealize.ShloMosaic.Lib.Ring

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Known contents are some contents. -/
theorem any_intro {sp : Space} {sh : Shape} {e : EltTy} (c : Dev nD) (M : Memref sig .tc sp sh e) (X : sh.Idx → Elt F e) :
    (at_ c M fullShare X : sProp 𝕄) ⊢ any_ c M := by
  iintro H; iexists X; iexact H

/-! ## Any disjoint covering family of rectangles -/

section Rects
variable {T : Type} [Fintype T] [DecidableEq T] {sp : Space} {sh : Shape} {e : EltTy} (c : Dev nD) (M : Memref sig .tc sp sh e)
variable (r : T → Rect sh) (hr : ∀ t a, (r t).stride a = 1) (hd : ∀ t t', t ≠ t' → Disjoint (r t).set (r t').set)

include hd in
/-- Contents given on each rectangle are the contents of one array. -/
theorem gather {α : Type} [Nonempty α] (Y : ∀ t, (r t).shape.Idx → α) : ∃ X : sh.Idx → α, ∀ t j, X ((r t).emb j) = Y t j := by
  have hmem (t : T) (j : (r t).shape.Idx) : (r t).emb j ∈ (r t).set := by
    rw [← Rect.map_emb_univ]; exact Finset.mem_map_of_mem _ (Finset.mem_univ j)
  have hinj : Function.Injective (fun p : (t : T) × (r t).shape.Idx => (r p.1).emb p.2) := by
    rintro ⟨t, j⟩ ⟨t', j'⟩ h
    have h : (r t).emb j = (r t').emb j' := h
    have ht : t = t' := by
      by_contra hne
      exact Finset.disjoint_left.mp (hd t t' hne) (hmem t j) (h ▸ hmem t' j')
    subst ht
    rw [(r t).emb.injective h]
  refine ⟨Function.extend (fun p : (t : T) × (r t).shape.Idx => (r p.1).emb p.2) (fun p => Y p.1 p.2) (fun _ => Classical.arbitrary α), fun t j => ?_⟩
  exact hinj.extend_apply (fun p => Y p.1 p.2) _ ⟨t, j⟩

variable (hcov : Finset.univ.biUnion (fun t => (r t).set) = Finset.univ)

include hd hcov

theorem cut_any : (any_ c M : sProp 𝕄) ⊢ bigSep Finset.univ fun t => any_ c (M.slice (r t) (hr t)) := by
  have h (X : sh.Idx → Elt F e) : (at_ c M fullShare X : sProp 𝕄) ⊢ bigSep Finset.univ fun t => any_ c (M.slice (r t) (hr t)) :=
    (owns_rects (c : Thread nD τ) M fullShare r hr hd hcov X).trans (bigSep_mono fun t _ => any_intro c _ _)
  iintro ⟨%X, H⟩
  iapply (h X); iexact H

theorem join_known (Y : ∀ t, (r t).shape.Idx → Elt F e) :
    (bigSep Finset.univ fun t => at_ c (M.slice (r t) (hr t)) fullShare (Y t))
      ⊢ (iprop(∃ X : sh.Idx → Elt F e, ⌜∀ t j, X ((r t).emb j) = Y t j⌝ ∗ at_ c M fullShare X) : sProp 𝕄) := by
  obtain ⟨X, hX⟩ := gather r hd Y
  rw [bigSep_congr (fun t _ => by rw [show Y t = fun j => X ((r t).emb j) from funext fun j => (hX t j).symm])]
  iintro H
  iexists X
  isplitr; · ipureintro; exact hX
  iapply (owns_of_rects (c : Thread nD τ) M fullShare r hr hd hcov X); iexact H

end Rects

/-! ## The scratch buffers -/

theorem rows_disjoint (i i' : Fin 16) (h : i ≠ i') : Disjoint (rowsR i).set (rowsR i').set :=
  Ring.lead_disjoint (s := S2048x1024) (0 : Fin 2) 128 (fun i : Fin 16 => ![128 * i.val, 0]) S128x1024.size rows_inb (fun _ => rfl) rfl i i' h

theorem rows_cover : Finset.univ.biUnion (fun i => (rowsR i).set) = Finset.univ :=
  Ring.lead_cover (s := S2048x1024) (0 : Fin 2) 128 (fun i : Fin 16 => ![128 * i.val, 0]) S128x1024.size rows_inb (fun _ => rfl)
    (fun _ a ha => by fin_cases a; exacts [absurd rfl ha, rfl]) rfl (fun a ha => by fin_cases a; exacts [absurd rfl ha, rfl]) rfl

theorem scratch_cut {e : EltTy} (c : Dev nD) (M : Memref sig .tc .vmem S2048x1024 e) :
    (any_ c M : sProp 𝕄) ⊢ bigSep Finset.univ fun i => any_ c (M.slice (rowsR i) (fun _ => rfl)) :=
  cut_any c M rowsR (fun _ _ => rfl) rows_disjoint rows_cover

theorem scratch_join {e : EltTy} (c : Dev nD) (M : Memref sig .tc .vmem S2048x1024 e) (Y : ∀ i : Fin 16, (rowsR i).shape.Idx → Elt F e) :
    (bigSep Finset.univ fun i => at_ c (M.slice (rowsR i) (fun _ => rfl)) fullShare (Y i)) ⊢ (any_ c M : sProp 𝕄) := by
  iintro H
  ihave H' := (join_known c M rowsR (fun _ _ => rfl) rows_disjoint rows_cover Y) $$ H
  icases H' with ⟨%X, -, H⟩
  iexists X; iexact H

/-! ## The argument and the result -/

/-- A device's own half and its neighbour's. -/
abbrev side (c : Dev nD) : Fin 2 → Dev nD
  | 0 => c | 1 => xp c

abbrev halfR (c : Dev nD) (t : Fin 2 × Fin 16) : Rect S4096x1024 := blockR (side c t.1) t.2

/-- Which rows a chunk is. -/
theorem mem_block (d : Dev nD) (i : Fin 16) (x : S4096x1024.Idx) :
    x ∈ (blockR d i).set ↔ 2048 * (d.val / 2) + 128 * i.val ≤ (x 0).val ∧ (x 0).val < 2048 * (d.val / 2) + 128 * i.val + 128 := by
  rw [Rect.mem_set_unit, k0_off1_eq d i]
  constructor
  · intro h; exact h 0
  · intro h a
    fin_cases a
    · exact h
    · exact ⟨Nat.zero_le _, (Nat.zero_add 1024).symm ▸ (x 1).isLt⟩

theorem side_lt (c : Dev nD) (b : Fin 2) : (side c b).val / 2 < 2 := by revert c b; decide +kernel
theorem side_inj (c : Dev nD) (b b' : Fin 2) (h : (side c b).val / 2 = (side c b').val / 2) : b = b' := by revert c b b'; decide +kernel
theorem side_surj (c : Dev nD) (h : Fin 2) : ∃ b, (side c b).val / 2 = h.val := by revert c h; decide +kernel

theorem half_disjoint (c : Dev nD) (t t' : Fin 2 × Fin 16) (h : t ≠ t') : Disjoint (halfR c t).set (halfR c t').set := by
  obtain ⟨b, i⟩ := t
  obtain ⟨b', i'⟩ := t'
  rw [Finset.disjoint_left]
  intro x hx hx'
  have h1 := (mem_block (side c b) i x).mp hx
  have h2 := (mem_block (side c b') i' x).mp hx'
  have hi := i.isLt
  have hi' := i'.isLt
  have hb : b = b' := side_inj c b b' (by omega)
  subst hb
  exact h (Prod.ext rfl (Fin.ext (by show i.val = i'.val; omega)))

theorem half_cover (c : Dev nD) : Finset.univ.biUnion (fun t => (halfR c t).set) = Finset.univ := by
  ext x
  simp only [Finset.mem_biUnion, Finset.mem_univ, true_and, iff_true]
  have hx : (x 0).val < 4096 := (x 0).isLt
  obtain ⟨b, hb⟩ := side_surj c ⟨(x 0).val / 2048, by omega⟩
  exact ⟨(b, ⟨((x 0).val % 2048) / 128, by omega⟩), (mem_block (side c b) _ x).mpr (by rw [hb]; dsimp only; omega)⟩

/-- A conjunction over both halves' chunks. -/
theorem bigSep_half (Φ : Fin 2 × Fin 16 → sProp 𝕄) :
    bigSep Finset.univ Φ = iprop((bigSep Finset.univ fun i => Φ (0, i)) ∗ (bigSep Finset.univ fun i => Φ (1, i))) := by
  rw [bigSep_univ_prod, bigSep_univ_eq_bigSepL [0, 1] (by decide) (by decide)]; rfl

variable (m : (ℓ : Loc nD τ sig) → Buf (Elt F) ℓ)

/-- The rows of the neighbour's half in `c`'s own argument. -/
def restX (c : Dev nD) (i : Fin 16) : Vec F S128x1024 .f32 := fun j => (m ((c : Thread nD τ).loc main_arg0)) ((blockR (xp c) i).emb j)

theorem arg_chunks (c : Dev nD) :
    (bigSep Finset.univ fun t => at_ c (argM.slice (halfR c t) (fun _ => rfl)) fullShare (fun j => (m ((c : Thread nD τ).loc main_arg0)) ((halfR c t).emb j)) : sProp 𝕄)
      = iprop((bigSep Finset.univ fun i => at_ c (argS c i) fullShare (chunkX m c i)) ∗ (bigSep Finset.univ fun i => at_ c (argS (xp c) i) fullShare (restX m c i))) := by
  rw [bigSep_half]; rfl

theorem arg_cut (c : Dev nD) :
    (((c : Thread nD τ).loc main_arg0) ↦{fullShare} m ((c : Thread nD τ).loc main_arg0) : sProp 𝕄)
      ⊢ iprop((bigSep Finset.univ fun i => at_ c (argS c i) fullShare (chunkX m c i)) ∗ (bigSep Finset.univ fun i => at_ c (argS (xp c) i) fullShare (restX m c i))) := by
  rw [← arg_chunks, ← owns_whole (c : Thread nD τ) main_arg0]
  exact owns_rects (c : Thread nD τ) argM fullShare (halfR c) (fun _ _ => rfl) (half_disjoint c) (half_cover c) _

theorem arg_join (c : Dev nD) :
    iprop((bigSep Finset.univ fun i => at_ c (argS c i) fullShare (chunkX m c i)) ∗ (bigSep Finset.univ fun i => at_ c (argS (xp c) i) fullShare (restX m c i)))
      ⊢ (((c : Thread nD τ).loc main_arg0) ↦{fullShare} m ((c : Thread nD τ).loc main_arg0) : sProp 𝕄) := by
  rw [← arg_chunks, ← owns_whole (c : Thread nD τ) main_arg0]
  exact owns_of_rects (c : Thread nD τ) argM fullShare (halfR c) (fun _ _ => rfl) (half_disjoint c) (half_cover c) _

theorem out_cut (c : Dev nD) (f : Buf (Elt F) ((c : Thread nD τ).loc main_v1)) :
    (((c : Thread nD τ).loc main_v1) ↦{fullShare} f : sProp 𝕄)
      ⊢ iprop((bigSep Finset.univ fun i => any_ c (outS c i)) ∗ (bigSep Finset.univ fun i => any_ c (outS (xp c) i))) := by
  rw [← owns_whole (c : Thread nD τ) main_v1]
  have h := (cut_any (F := F) c outM (halfR c) (fun _ _ => rfl) (half_disjoint c) (half_cover c)).trans
    (Entails.of_eq (bigSep_half fun t => any_ c (outM.slice (halfR c t) (fun _ => rfl))))
  iintro H
  iapply h
  iexists f; iexact H

/-- What the result of device `c` holds: its own half's sums, and its neighbour's at the other half. -/
def OutIs (c : Dev nD) (X : S4096x1024.Idx → Elt F .bf16) : Prop :=
  (∀ i j, X ((blockR c i).emb j) = chunkSum m c i j) ∧ ∀ i j, X ((blockR (xp c) i).emb j) = chunkSum m (xp c) i j

theorem out_join (c : Dev nD) :
    iprop((bigSep Finset.univ fun i => at_ c (outS c i) fullShare (chunkSum m c i)) ∗ (bigSep Finset.univ fun i => at_ c (outS (xp c) i) fullShare (chunkSum m (xp c) i)))
      ⊢ (iprop(∃ X : Buf (Elt F) ((c : Thread nD τ).loc main_v1), ⌜OutIs m c X⌝ ∗ (((c : Thread nD τ).loc main_v1) ↦{fullShare} X)) : sProp 𝕄) := by
  refine (Entails.of_eq (bigSep_half fun t : Fin 2 × Fin 16 => (at_ c (outM.slice (halfR c t) (fun _ => rfl)) fullShare (chunkSum m (side c t.1) t.2) : sProp 𝕄)).symm).trans ?_
  refine (join_known c outM (halfR c) (fun _ _ => rfl) (half_disjoint c) (half_cover c) fun t => chunkSum m (side c t.1) t.2).trans ?_
  iintro ⟨%X, %hX, H⟩
  iexists X
  isplitr; · ipureintro; exact ⟨fun i j => hX (0, i) j, fun i j => hX (1, i) j⟩
  rw [← owns_whole (c : Thread nD τ) main_v1]
  iexact H

end
-- ==== Proof.Device.lean ====
/-
# One device from its launch to its end

A device starts with its whole buffers, what the launch deals it and the units the others owe it. It cuts its buffers
into chunks, runs the body, and joins the chunks again.
-/
module

public import proofs.«01_k».proof.Proof.Deal
public import proofs.«01_k».proof.Proof.Slices

@[expose] public section

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The tokens, sorted by barrier and by chunk -/

/-- A family over the six arrays' cells, array by array. -/
theorem over_six (Φ : Fin 6 × Fin 16 → sProp 𝕄) :
    bigSep Finset.univ Φ = iprop((bigSep Finset.univ fun i => Φ (0, i)) ∗ (bigSep Finset.univ fun i => Φ (1, i)) ∗ (bigSep Finset.univ fun i => Φ (2, i))
      ∗ (bigSep Finset.univ fun i => Φ (3, i)) ∗ (bigSep Finset.univ fun i => Φ (4, i)) ∗ (bigSep Finset.univ fun i => Φ (5, i))) := by
  rw [bigSep_univ_prod, bigSep_univ_eq_bigSepL [0, 1, 2, 3, 4, 5] (by decide) (by decide)]; rfl

/-- A family over all cells: the two barriers and the six arrays. -/
theorem over_cell (Φ : Cell → sProp 𝕄) :
    bigSep Finset.univ Φ = iprop((Φ (.inl 0) ∗ Φ (.inl 1)) ∗ bigSep Finset.univ fun x => Φ (.inr x)) := by
  rw [bigSep_univ_sum, bigSep_fin_two]; rfl

/-- A family over all duties. -/
theorem over_duty (Φ : Duty → sProp 𝕄) :
    bigSep Finset.univ Φ = iprop(((Φ (.inl (0, 0)) ∗ Φ (.inl (0, 1)) ∗ Φ (.inl (0, 2))) ∗ (Φ (.inl (1, 0)) ∗ Φ (.inl (1, 1)) ∗ Φ (.inl (1, 2))))
      ∗ bigSep Finset.univ fun x => Φ (.inr x)) := by
  have h3 (Ψ : Fin 3 → sProp 𝕄) : bigSep Finset.univ Ψ = iprop(Ψ 0 ∗ Ψ 1 ∗ Ψ 2) := bigSep_univ_eq_bigSepL [0, 1, 2] (by decide) (by decide) Ψ
  rw [bigSep_univ_sum, bigSep_univ_prod, bigSep_fin_two, h3, h3]; rfl

/-- The tokens, the credit and the position a device needs at barrier `b`. -/
def meetDealt (b : Fin 2) : sProp 𝕄 :=
  iprop((tok (xp c) (.inl b) 0 ∗ tok (yp c) (.inl b) 1 ∗ tok (dp c) (.inl b) 2) ∗ cred (tallyAt (cellAt c (.inl b)) () 3) ∗ pos c (.inl b))

theorem sort_dealt :
    iprop(dealtAll c ∗ bigSep Finset.univ fun k : Cell => cred (tallyAt (cellAt c k) () (due k)))
      ⊢ (iprop(meetDealt c 0 ∗ meetDealt c 1 ∗ bigSep Finset.univ fun i => dealt c i) : sProp 𝕄) := by
  unfold dealtAll dealt meetDealt
  rw [over_duty, over_cell, over_cell, over_six, over_six, over_six]
  simp only [bigSep_sep']
  iintro ⟨⟨⟨⟨⟨X0, Y0, D0⟩, ⟨X1, Y1, D1⟩⟩, T0, T1, T2, T3, T4, T5⟩, ⟨P0, P1⟩, Q0, Q1, Q2, Q3, Q4, Q5⟩, ⟨C0, C1⟩, -, -, -, C3, -, C5⟩
  isplitl [X0 Y0 D0 C0 P0]
  · isplitl [X0 Y0 D0]
    · isplitl [X0]; · iexact X0
      isplitl [Y0]; · iexact Y0
      iexact D0
    isplitl [C0]; · iexact C0
    iexact P0
  isplitl [X1 Y1 D1 C1 P1]
  · isplitl [X1 Y1 D1]
    · isplitl [X1]; · iexact X1
      isplitl [Y1]; · iexact Y1
      iexact D1
    isplitl [C1]; · iexact C1
    iexact P1
  isplitl [T0 T1 T2 T3 T4 T5]
  · isplitl [T0]; · iexact T0
    isplitl [T1]; · iexact T1
    isplitl [T2]; · iexact T2
    isplitl [T3]; · iexact T3
    isplitl [T4]; · iexact T4
    iexact T5
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [C3]; · iexact C3
  iexact C5

/-! ## Going into the barriers -/

/-- Into the opening barrier a device gives its rows of the result that its first neighbour fills, and its receive buffer. -/
theorem meet_open :
    iprop(meetDealt c 0 ∗ (bigSep Finset.univ fun i => any_ c (outS (xp c) i)) ∗ bigSep Finset.univ fun i => any_ c (recvS i)) ⊢ (meetIn m 0 c : sProp 𝕄) := by
  have hx : (pay m (xp c) (.inl 0) 0 : sProp 𝕄) = bigSep Finset.univ fun i => any_ c (outS (xp c) i) :=
    (show _ = (bigSep Finset.univ fun i : Fin 16 => (any_ (xp (xp c)) (outS (xp c) i) : sProp 𝕄)) from rfl).trans (by rw [xp_xp])
  have hy : (pay m (yp c) (.inl 0) 1 : sProp 𝕄) = bigSep Finset.univ fun i => any_ c (recvS i) :=
    (show _ = (bigSep Finset.univ fun i : Fin 16 => (any_ (yp (yp c)) (recvS i) : sProp 𝕄)) from rfl).trans (by rw [yp_yp])
  have hd : (pay m (dp c) (.inl 0) 2 : sProp 𝕄) = iprop(emp) := rfl
  unfold meetIn meetDealt
  rw [hx, hy, hd]
  iintro ⟨⟨⟨TX, TY, TD⟩, C, P⟩, HX, HY⟩
  isplitl [TX HX]
  · isplitl [TX] <;> iassumption
  isplitl [TY HY]
  · isplitl [TY] <;> iassumption
  isplitl [TD]
  · isplitl [TD]; · iexact TD
    iempintro
  isplitl [C] <;> iassumption

theorem meet_close : (meetDealt c 1 : sProp 𝕄) ⊢ meetIn m 1 c := by
  have h (d : Dev nD) (k : Fin 3) : (pay m d (.inl 1) k : sProp 𝕄) = iprop(emp) := rfl
  unfold meetIn meetDealt
  rw [h, h, h]
  iintro ⟨⟨TX, TY, TD⟩, C, P⟩
  isplitl [TX]
  · isplitl [TX]; · iexact TX
    iempintro
  isplitl [TY]
  · isplitl [TY]; · iexact TY
    iempintro
  isplitl [TD]
  · isplitl [TD]; · iexact TD
    iempintro
  isplitl [C] <;> iassumption

/-! ## The buffers -/

abbrev argHeld : sProp 𝕄 := iprop(((c : Thread nD τ).loc main_arg0) ↦{fullShare} m ((c : Thread nD τ).loc main_arg0))
abbrev outHeld : sProp 𝕄 := iprop(((c : Thread nD τ).loc main_v1) ↦{fullShare} m ((c : Thread nD τ).loc main_v1))
/-- The result at its final contents. -/
abbrev outDone : sProp 𝕄 :=
  iprop(∃ X : Buf (Elt F) ((c : Thread nD τ).loc main_v1), ⌜OutIs m c X⌝ ∗ (((c : Thread nD τ).loc main_v1) ↦{fullShare} X))
/-- The four scratch buffers, at some contents. -/
abbrev scratch : sProp 𝕄 := iprop(any_ c xhM ∗ any_ c sendM ∗ any_ c recvM ∗ any_ c sumM)
/-- The rows of the argument that the device does not read. -/
abbrev restHeld : sProp 𝕄 := bigSep Finset.univ fun i => at_ c (argS (xp c) i) fullShare (restX m c i)

theorem cut_all :
    iprop(argHeld m c ∗ outHeld m c ∗ scratch c)
      ⊢ (iprop((bigSep Finset.univ fun i => keptIn m c i) ∗ restHeld m c
          ∗ (bigSep Finset.univ fun i => any_ c (outS (xp c) i)) ∗ bigSep Finset.univ fun i => any_ c (recvS i)) : sProp 𝕄) := by
  unfold keptIn
  simp only [bigSep_sep']
  iintro ⟨Ha, Ho, Hx, Hs, Hr, Hu⟩
  ihave Ha := (arg_cut m c) $$ Ha
  icases Ha with ⟨Ha, Hrest⟩
  ihave Ho := (out_cut c (m ((c : Thread nD τ).loc main_v1))) $$ Ho
  icases Ho with ⟨Ho, Hox⟩
  ihave Hx := (scratch_cut c xhM) $$ Hx
  ihave Hs := (scratch_cut c sendM) $$ Hs
  ihave Hr := (scratch_cut c recvM) $$ Hr
  ihave Hu := (scratch_cut c sumM) $$ Hu
  isplitl [Ha Hx Hs Hu Ho]
  · isplitl [Ha]; · iexact Ha
    isplitl [Hx]; · iexact Hx
    isplitl [Hs]; · iexact Hs
    isplitl [Hu]; · iexact Hu
    iexact Ho
  isplitl [Hrest]; · iexact Hrest
  isplitl [Hox]; · iexact Hox
  iexact Hr

theorem join_all :
    iprop((bigSep Finset.univ fun i => keptOut m c i) ∗ restHeld m c) ⊢ (iprop(argHeld m c ∗ outDone m c ∗ scratch c) : sProp 𝕄) := by
  unfold keptOut
  simp only [bigSep_sep']
  iintro ⟨⟨Ha, Hx, Hs, Hr, Hu, Ho, Hox⟩, Hrest⟩
  isplitl [Ha Hrest]
  · iapply (arg_join m c); isplitl [Ha] <;> iassumption
  isplitl [Ho Hox]
  · iapply (out_join m c); isplitl [Ho] <;> iassumption
  isplitl [Hx]; · iapply (scratch_join c xhM fun i => chunkX m c i); iexact Hx
  isplitl [Hs]; · iapply (scratch_join c sendM fun i => chunkSent m c i); iexact Hs
  isplitl [Hr]; · iapply (scratch_join c recvM fun i => chunkSent m (yp c) i); iexact Hr
  iapply (scratch_join c sumM fun i => chunkSum m c i); iexact Hu

theorem zeros_all :
    iprop((bigSep Finset.univ fun i => zeros c i) ∗ zero c (.inl 0) ∗ zero c (.inl 1)) ⊢ (iprop(ownZeros c ∗ unscopedSems0 c) : sProp 𝕄) := by
  rw [ownZeros_eq, unscopedZeros_eq, over_six]
  unfold zeros
  simp only [bigSep_sep']
  iintro ⟨⟨Z0, Z1, Z2, Z3, Z4, Z5⟩, B0, B1⟩
  isplitr [B0]
  · isplitl [B1]; · iexact B1
    isplitl [Z0]; · iexact Z0
    isplitl [Z1]; · iexact Z1
    isplitl [Z2]; · iexact Z2
    isplitl [Z3]; · iexact Z3
    isplitl [Z4]; · iexact Z4
    iexact Z5
  iexact B0

/-! ## The run of one device -/

/-- What a device has before its kernel starts, its scratch apart. -/
def start : sProp 𝕄 :=
  iprop((∃ K, records m K) ∗ meetDealt c 0 ∗ meetDealt c 1 ∗ (bigSep Finset.univ fun i => dealt c i) ∗ argHeld m c ∗ outHeld m c)

/-- What it has when its kernel ends, its scratch apart. -/
def final : sProp 𝕄 := iprop(argHeld m c ∗ outDone m c ∗ ownZeros c ∗ unscopedSems0 c)

theorem device_run :
    iprop((start m c ∗ scratch c) ∗ ow c (owedStart c)) ⊢ Wp c (bodyOn c) (fun _ => iprop((final m c ∗ scratch c) ∗ ow c 0)) := by
  unfold start
  iintro ⟨⟨⟨⟨%K, #HR⟩, HB, HE, HD, Ha, Ho⟩, Hscr⟩, HO⟩
  ihave Hcut := (cut_all m c) $$ [Ha Ho Hscr]
  · isplitl [Ha]; · iexact Ha
    isplitl [Ho] <;> iassumption
  icases Hcut with ⟨Hk, Hrest, Hox, Hrv⟩
  ihave HB := (meet_open m c) $$ [HB Hox Hrv]
  · isplitl [HB]; · iexact HB
    isplitl [Hox] <;> iassumption
  ihave HE := (meet_close m c) $$ HE
  iapply (wp_wand frame (wpE (defs₀ (F := F)) 𝒱₀ (c : Thread nD τ) none) Set.univ) $$ [HB HE HD Hk HO]
  · iapply (body_run m K c)
    isplitr; · iexact HR
    isplitl [HB]; · iexact HB
    isplitl [HD]; · iexact HD
    isplitl [Hk]; · iexact Hk
    isplitl [HE] <;> iassumption
  iintro %_ ⟨Hk, HZ, Z0, Z1, HO⟩
  ihave Hj := (join_all m c) $$ [Hk Hrest]
  · isplitl [Hk] <;> iassumption
  icases Hj with ⟨Ha, Ho, Hscr⟩
  ihave Hz := (zeros_all (F := F) c) $$ [HZ Z0 Z1]
  · isplitl [HZ]; · iexact HZ
    isplitl [Z0] <;> iassumption
  unfold final
  isplitr [HO]
  · isplitr [Hscr]
    · isplitl [Ha]; · iexact Ha
      isplitl [Ho]; · iexact Ho
      iexact Hz
    iexact Hscr
  iexact HO

end
-- ==== Proof.Launch.lean ====
/-
# The run of the whole kernel

From any memory with every counter at zero, the four devices' kernels run to the end: every device's argument is as it
was, its result holds the sums of both halves, and every counter is zero again.
-/
module

public import proofs.«01_k».proof.Proof.Device
public import proofs.«01_k».proof.Proof.Gen.KernelIdeal.Points
public import Idealize.ShloMosaic.Lib.Pipeline.CollectiveSegs

@[expose] public section

set_option maxRecDepth 16384

noncomputable section

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

/-- What a device has before its one grid point and after it. -/
def dats (_ : Fin 1) (c : Dev nD) : Dat τ (Elt F) Unit ℕ UU ℕ cfg0 c where
  A w := w.elim0
  after w := w.elim0
  Φ t := match t with
    | ⟨0, _⟩ => iprop(start m c ∗ scratch c)
    | ⟨_ + 1, _⟩ => iprop(final m c ∗ scratch c)
  q _ := fullShare
  owed t := match t with
    | ⟨0, _⟩ => owedStart c
    | ⟨_ + 1, _⟩ => 0

theorem no_windows (Φ : Fin cfg0.W → sProp 𝕄) : bigSep Finset.univ Φ = iprop(emp) := by
  rw [show (Finset.univ : Finset (Fin cfg0.W)) = ∅ from rfl, bigSep_empty]; rfl

/-- The printed body reads the device's number, and then is the loops. -/
theorem body_reads (c : Dev nD) :
    iprop((start m c ∗ scratch c) ∗ ow c (owedStart c)) ⊢ Wp c (bodyAt0 (F := F) t0_0) (fun _ => iprop((final m c ∗ scratch c) ∗ ow c 0)) := by
  unfold bodyAt0
  rw [body_eq_loops]
  simp only [Prog.lift, Prog.bind_op, Prog.bind_ret, wp_deviceId]
  exact device_run m c

theorem body_obligation (c : Dev nD) : BodyObligation (dats m 0 c) (defs₀ (F := F)) 𝒱₀ () Set.univ := fun t => by
  rw [fin_N0 t, no_windows, no_windows]
  show iprop((start m c ∗ scratch c) ∗ (dats m 0 c).owesAt () (t0_0 : Fin cfg0.N).castSucc ∗ emp)
    ⊢ Wp c (bodyAt0 (F := F) t0_0) (fun _ => iprop((final m c ∗ scratch c) ∗ (dats m 0 c).owesAt () (t0_0 : Fin cfg0.N).succ ∗ emp))
  unfold Dat.owesAt Pipeline.owesWithin
  iintro ⟨HS, ⟨%W, -, HO⟩, -⟩
  iapply (wp_wand frame (wpE (defs₀ (F := F)) 𝒱₀ (c : Thread nD τ) none) Set.univ) $$ [HS HO]
  · iapply (body_reads m c)
    isplitl [HS]; · iexact HS
    unfold ow
    iexists W; iexact HO
  unfold ow
  iintro %_ ⟨HS, ⟨%W', HO⟩⟩
  isplitl [HS]; · iexact HS
  isplitl [HO]
  · iexists W'
    isplitr; · ipureintro; exact fun _ _ => Or.inl trivial
    iexact HO
  iempintro

/-! ## In and out -/

theorem scratch_eq (c : Dev nD) : (Pipeline.scopedRest cfg0.spec c : sProp 𝕄) = scratch c := by
  rw [scopedRest0_eq]
  unfold scratch any_ at_
  simp only [owns_whole]
  rfl

theorem start_intro (c : Dev nD) :
    iprop(Pipeline.unscopedRestP Pipeline.Prefetch.none cfg0.spec c (fun b => m ((c : Thread nD τ).loc b)) ∗ levAts L lv
        ∗ Pipeline.launchCred owedStart c ∗ prngReg c (ρ c) ∗ given m c)
      ⊢ (|={Set.univ}=> iprop(start m c ∗ emp) : sProp 𝕄) := by
  rw [Pipeline.unscopedRestP_none, unscopedRest0_eq]
  unfold given start opened records
  iintro ⟨⟨Ha, Ho⟩, Hlev, Hcr, -, ⟨%K, ⟨HI, HR⟩, HD⟩⟩
  ihave Hc := (credits (F := F) c) $$ Hcr
  ihave Hs := (sort_dealt (F := F) c) $$ [HD Hc]
  · isplitl [HD] <;> iassumption
  icases Hs with ⟨HB, HE, Hd⟩
  imodintro
  isplitl
  · isplitl [HI HR Hlev]
    · iexists K
      isplitl [HI]; · iexact HI
      isplitl [HR] <;> iassumption
    isplitl [HB]; · iexact HB
    isplitl [HE]; · iexact HE
    isplitl [Hd]; · iexact Hd
    isplitl [Ha] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

/-- What leaves the kernel: the two arrays and the opening barrier's counter. -/
abbrev leaves (c : Dev nD) : sProp 𝕄 := iprop(argHeld m c ∗ outDone m c ∗ unscopedSems0 c)

theorem leave (c : Dev nD) :
    (dats m 0 c).Φ (Fin.last cfg0.N) ⊢ iprop(leaves m c ∗ ownZeros c ∗ Pipeline.scopedRest cfg0.spec c) := by
  rw [show (dats m 0 c).Φ (Fin.last cfg0.N) = iprop(final m c ∗ scratch c) from rfl, scratch_eq]
  unfold final
  iintro ⟨⟨Ha, Ho, Hz, Hu⟩, Hs⟩
  isplitl [Ha Ho Hu]
  · isplitl [Ha]; · iexact Ha
    isplitl [Ho] <;> iassumption
  isplitl [Hz] <;> iassumption

/-! ## What a final memory holds -/

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

/-- What a device's memory holds at the end. -/
def EndsWith (c : Dev nD) (s : MemSt nD τ sig (Elt F)) : Prop :=
  s.mem ((c.tc : Thread nD τ).loc main_arg0) = m ((c.tc : Thread nD τ).loc main_arg0) ∧ OutIs m c (s.mem ((c.tc : Thread nD τ).loc main_v1))

theorem read_end (c : Dev nD) (s' : Phys nD τ sig (Elt F)) :
    iprop(leaves m c ∗ emp ∗ SI s')
      ⊢ (|={Set.univ}=> iprop(⌜EndsWith m c s'.mem ∧ ∀ sm : SemLoc sig, sm.isScoped .tc = false → s'.mem.sem ((c.tc : Thread nD τ), sm) = 0⌝ ∗ SI s') : sProp 𝕄) := by
  iintro ⟨⟨Ha, ⟨%X, %hX, Ho⟩, Hu⟩, -, HSI⟩
  ihave H := (read_one _ _ s') $$ [Ha HSI]
  · isplitl [Ha] <;> iassumption
  icases H with ⟨%ha, HSI⟩
  ihave H := (read_one _ _ s') $$ [Ho HSI]
  · isplitl [Ho] <;> iassumption
  icases H with ⟨%ho, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨⟨ha, by rw [ho]; exact hX⟩, hu⟩
  iexact HSI

/-! ## The run -/

/-- From any memory, with every counter at zero, the kernel runs to an end on every device: the argument as it was, the
    result the sums of both halves, every counter zero. -/
theorem run_main : θ_run defs (onTc (τ := τ) (main (F := F))) ⟨m, fun _ => 0, ρ⟩ (fun r => (∀ c, EndsWith m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owedStart) (howed₀ := fun _ => rfl) (howedN := fun _ => rfl)
    (L := L) (lv := lv) (hL := L_of_ne) (hwaits := fun c => Pipeline.cellsWaits_intro cfgs (dats m) () 0 c fun w => w.elim0)
    (G := minted m) (G' := given m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := set_up m)
    (hA := fun _ w => w.elim0) (hpf := fun _ k => k.elim0)
    (X := start m) (Y := leaves m) (Z := fun _ => iprop(emp))
    (hX := start_intro m ρ) (hin := enter m) (hout := leave m)
    (QY := fun c s => EndsWith m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end
-- ==== Proof.Ref.lean ====
/- What the reference computes: at every place of the result, the sum of the two halves of the whole argument. -/
module

public import proofs.«01_k».proof.Proof.Gen.ReferenceIdeal.Run
public import Idealize.ShloMosaic.Lib.Pointwise.Reduce
public import Idealize.ShloMosaic.Lib.IdealHost
public import Idealize.ShloMosaic.Lib.ValueLayout

@[expose] public section

noncomputable section

namespace Cert.Value

open Cert.ReferenceIdeal Cert.ReferenceIdeal.Gen
open Idealize.ShloMosaic Idealize.ShloMosaic.TcCoe Idealize.SL.Sem

/-- The place in the whole argument of row `x 0` of half `h`. -/
def place (h : Fin 2) (x : S4096x1024.Idx) : S8192x1024.Idx :=
  ix2 (n0 := 8192) (n1 := 1024) ⟨4096 * h.val + (x 0).val, by have := h.isLt; have : (x 0).val < 4096 := (x 0).isLt; omega⟩ (x 1)

/-- The sum of the two halves of `A`. -/
def halvesSum (A : S8192x1024.Idx → EReal) : S4096x1024.Idx → EReal := fun x => A (place 0 x) + A (place 1 x)

/-- The argument cut into two halves, read at a row of one of them. -/
theorem cut_apply (A : S8192x1024.Idx → EReal) (h : Fin 2) (x : S4096x1024.Idx) :
    shapeCast S2x4096x1024 A shapeCasts_S8192x1024_S2x4096x1024 (ix3 (n0 := 2) (n1 := 4096) (n2 := 1024) h (x 0) (x 1)) = A (place h x) :=
  shapeCast_apply _ _ _ _ (by
    rw [Shape.rowMajor_val_three, Shape.rowMajor_val_two]
    show (4096 * h.val + (x 0).val) * 1024 + (x 1).val = (h.val * 4096 + (x 0).val) * 1024 + (x 1).val
    rw [Nat.mul_comm 4096])

/-- The value the reference ends with is the sum of the two halves of its argument. -/
theorem reference_value (A : S8192x1024.Idx → EReal) :
    (truncf (F := Ideal) .bf16 (Host.reduceAdd (shapeCast S2x4096x1024 A shapeCasts_S8192x1024_S2x4096x1024) (constant (F := Ideal) S_ .f32 0x00000000#32) reducesTo_S2x4096x1024_S4096x1024_d0 h_S_) bitsLt_bf16_f32 : S4096x1024.Idx → EReal)
      = halvesSum A := by
  funext x
  show Ideal.hostReduceAdd reducesTo_S2x4096x1024_S4096x1024_d0 (shapeCast S2x4096x1024 A shapeCasts_S8192x1024_S2x4096x1024) (Ideal.ofBits .f32 0x00000000#32) x = _
  rw [Ideal.hostReduceAdd_r3_a0, Ideal.ofBits_zero_f32, zero_add, Fin.sum_univ_two]
  exact congrArg₂ (· + ·) (cut_apply A 0 x) (cut_apply A 1 x)

end Cert.Value

end
-- ==== Proof.Value.lean ====
/- What the kernel computes over exact values: every device's result is the sum of the two halves of the whole argument. -/
module

public import proofs.«01_k».proof.Proof.Slices
public import proofs.«01_k».proof.Proof.Ref
public import Idealize.ShloMosaic.Lib.Layout

@[expose] public section

set_option maxRecDepth 16384

noncomputable section

namespace Cert.Value

open Cert.KernelIdeal Cert.KernelIdeal.Gen
open Idealize.ShloMosaic Idealize.ShloMosaic.TcCoe Idealize.SL.Sem

variable (m : (ℓ : Loc nD τ sig) → Buf (Elt Ideal) ℓ)

/-- The argument of device `c`, as an array. -/
def argOf (c : Dev nD) : S4096x1024.Idx → EReal := m ((c.tc : Thread nD τ).loc main_arg0)

/-- Which half of the whole argument device `c` holds. -/
def halfOf (c : Dev nD) : Fin 2 := ⟨c.val % 2, Nat.mod_lt _ (by decide)⟩

/-- A device and its neighbour along the second axis hold different halves. -/
theorem half_pair (c : Dev nD) : (halfOf c = 0 ∧ halfOf (yp c) = 1) ∨ (halfOf c = 1 ∧ halfOf (yp c) = 0) := by
  revert c; decide +kernel

theorem mesh_rows (c : Dev nD) : Layout.meshLin [2, 2] c.val [1] = c.val % 2 := by revert c; decide +kernel

/-- A device's part of the whole argument `A` is the half it holds. -/
theorem part_apply (A : Cert.ReferenceIdeal.S8192x1024.Idx → EReal) (c : Dev nD) (x : S4096x1024.Idx) :
    (Layout.blockN ⟨2, ![4096, 1024]⟩ ⟨2, ![8192, 1024]⟩ (Layout.meshBlock [2, 2] ![[1], []] c) A : S4096x1024.Idx → EReal) x = A (place (halfOf c) x) := by
  rw [Layout.blockN_apply]
  congr 1
  funext a
  apply Fin.ext
  rw [Layout.TilesN.idx_val]
  fin_cases a
  · show Layout.meshLin [2, 2] c.val [1] * 4096 + (x 0).val = 4096 * (c.val % 2) + (x 0).val
    rw [mesh_rows, Nat.mul_comm]
  · show 0 * 1024 + (x 1).val = (x 1).val
    rw [Nat.zero_mul, Nat.zero_add]

/-- The two devices of a pair along the second axis work on the same rows. -/
theorem rows_pair (c : Dev nD) (i : Fin 16) (j : S128x1024.Idx) : (blockR (yp c) i).emb j = (blockR c i).emb j := by
  have h : k0_off1 (yp c) (BitVec.ofNat 32 (128 * i.val)) = k0_off1 c (BitVec.ofNat 32 (128 * i.val)) := by
    revert c i; decide +kernel
  funext a
  apply Fin.ext
  show k0_off1 (yp c) (BitVec.ofNat 32 (128 * i.val)) a + _ = k0_off1 c (BitVec.ofNat 32 (128 * i.val)) a + _
  rw [h]; rfl

/-- What one chunk's sum is: the device's own rows plus the same rows of its neighbour along the second axis. -/
theorem chunk_sum (c : Dev nD) (i : Fin 16) (j : S128x1024.Idx) :
    chunkSum m c i j = argOf m c ((blockR c i).emb j) + argOf m (yp c) ((blockR c i).emb j) := by
  unfold chunkSum chunkSent added narrow k0_pay18 k0_pay1
  simp only [shapeCast_self]
  show argOf m c ((blockR c i).emb j) + argOf m (yp c) ((blockR (yp c) i).emb j) = _
  rw [rows_pair]

/-- With every device holding its half of `A`, a chunk's sum is the sum of the two halves at its rows. -/
theorem chunk_halves (A : Cert.ReferenceIdeal.S8192x1024.Idx → EReal) (hA : ∀ c x, argOf m c x = A (place (halfOf c) x)) (c : Dev nD) (i : Fin 16) (j : S128x1024.Idx) :
    chunkSum m c i j = halvesSum A ((blockR c i).emb j) := by
  rw [chunk_sum, hA, hA]
  unfold halvesSum
  obtain ⟨h, h'⟩ | ⟨h, h'⟩ := half_pair c <;> rw [h, h']
  exact add_comm _ _

/-- A result filled by both halves' chunks is, everywhere, the sum of the two halves of `A`. -/
theorem result_value (A : Cert.ReferenceIdeal.S8192x1024.Idx → EReal) (hA : ∀ c x, argOf m c x = A (place (halfOf c) x)) (c : Dev nD) (X : S4096x1024.Idx → EReal)
    (hX : OutIs m c X) : X = halvesSum A := by
  funext y
  have hy : y ∈ Finset.univ.biUnion (fun t => (halfR c t).set) := by rw [half_cover]; exact Finset.mem_univ y
  obtain ⟨⟨b, i⟩, -, hy⟩ := Finset.mem_biUnion.mp hy
  rw [← Rect.map_emb_univ] at hy
  obtain ⟨j, -, rfl⟩ := Finset.mem_map.mp hy
  fin_cases b
  · exact (hX.1 i j).trans (chunk_halves m A hA c i j)
  · exact (hX.2 i j).trans (chunk_halves m A hA (xp c) i j)

end Cert.Value

end
-- ==== Proof.lean ====
/- The claim: the frames of the kernel, of its idealization and of the reference, that the idealization changes
   nothing, and that the idealized kernel and the reference end with equal results. -/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel ends with its arguments as they were and every counter at zero, on the machine's own floats. -/
theorem frame_kernel : Cert.quiescent_Kernel := fun m ρ _ =>
  (θ_run Cert.KernelIdeal.defs _ _).mono (fun _ h => ⟨fun c => (h.1 c).1, h.2⟩) (run_main (F := Bits) m ρ)

/-- So does the idealized kernel, on exact values. -/
theorem frame_ideal : Cert.quiescent_KernelIdeal := fun m ρ _ =>
  (θ_run Cert.KernelIdeal.defs _ _).mono (fun _ h => ⟨fun c => (h.1 c).1, h.2⟩) (run_main (F := Ideal) m ρ)

/-- And so does the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The idealized kernel's result, on every device, is the reference's: the sum of the two halves of the argument. -/
theorem value_agrees : Cert.algebraic_KernelIdeal_ReferenceIdeal := fun m ρ m' ρ' _ hin =>
  ⟨Cert.Value.halvesSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨Cert.Value.result_value m _ (fun d x => (congrFun (hin d) x).trans (Cert.Value.part_apply _ d x)) c _ (h.1 c).2, (h.1 c).1⟩)
      (run_main (F := Ideal) m ρ),
    (θ_run Cert.ReferenceIdeal.defs _ _).mono
      (fun _ h => ⟨(h 0).1.trans (Cert.Value.reference_value _), (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value_agrees⟩

end Cert.Proof

end
